-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 4096, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 4096, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 4096, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 4096, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x256x4x64 .f32 := (extf .f32 · bitsLt_bf16_f32) main_arg2
  let main_v12 : FVec F S2x256x4x64 .f32 := Host.absf main_v11
  let main_cst_2 : FVec F S_ .f32 := constant S_ .f32 0x7F800000#32
  let main_v13 : FVec F S2x256x4x64 .f32 := broadcastInDim S2x256x4x64 ![] bcast_S_S2x256x4x64 main_cst_2
  let main_v14 : IVec S2x256x4x64 1 := cmpf .olt main_v12 main_v13
  let main_c_3 : IVec S_ 1 := constantI S_ 1 1#1
  let main_v15 : IVec S_ 1 := (fun x v => Host.reduce IntOp.andi x v reducesTo_S2x256x4x64_S_d0_1_2_3 h_S_) main_v14 main_c_3
  let main_v16 : IVec S_ 1 := andi main_v10 main_v15
  main_v16
-- ==== Pre_finite_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bitsLt_bf16_f32 : FTy.bits .bf16 < FTy.bits .f32
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn {F : FTy → Type} [FloatOps F] (main_arg0 : FVec F S2x4096x512 .bf16) (main_arg1 : FVec F S512x256 .bf16) (main_arg2 : FVec F S2x4096x4x64 .bf16) (main_arg3 : FVec F S2x4096x4x64 .bf16) (main_arg4 : FVec F S256x512 .bf16) : IVec S_ 1 :=
  let main_v0 : FVec F S2x4096x512 .f32 := (extf .f32 · bitsLt_bf16_f32) main_arg0
  let main_v1 : FVec F S2x4096x512 .f32 := Host.absf main_v0
  let main_cst : FVec F S_ .f32 := constant S_ .f32 0x7F800000#32
  let main_v2 : FVec F S2x4096x512 .f32 := broadcastInDim S2x4096x512 ![] bcast_S_S2x4096x512 main_cst
  let main_v3 : IVec S2x4096x512 1 := cmpf .olt main_v1 main_v2
  let main_c : IVec S_ 1 := constantI S_ 1 1#1
  let main_v4 : IVec S_ 1 := (fun x v => Host.reduce IntOp.andi x v reducesTo_S2x4096x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x4096x4x64 .f32 := (extf .f32 · bitsLt_bf16_f32) main_arg2
  let main_v12 : FVec F S2x4096x4x64 .f32 := Host.absf main_v11
  let main_cst_2 : FVec F S_ .f32 := constant S_ .f32 0x7F800000#32
  let main_v13 : FVec F S2x4096x4x64 .f32 := broadcastInDim S2x4096x4x64 ![] bcast_S_S2x4096x4x64 main_cst_2
  let main_v14 : IVec S2x4096x4x64 1 := cmpf .olt main_v12 main_v13
  let main_c_3 : IVec S_ 1 := constantI S_ 1 1#1
  let main_v15 : IVec S_ 1 := (fun x v => Host.reduce IntOp.andi x v reducesTo_S2x4096x4x64_S_d0_1_2_3 h_S_) main_v14 main_c_3
  let main_v16 : IVec S_ 1 := andi main_v10 main_v15
  main_v16
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x512x512 : Shape := ⟨3, ![2, 512, 512]⟩
abbrev S2 : Shape := ⟨1, ![2]⟩
abbrev S2x256x256 : Shape := ⟨3, ![2, 256, 256]⟩
abbrev S2x128x512 : Shape := ⟨3, ![2, 128, 512]⟩
abbrev S_ : Shape := ⟨0, ![]⟩
abbrev S1 : Shape := ⟨1, ![1]⟩
abbrev S1x256x512 : Shape := ⟨3, ![1, 256, 512]⟩
abbrev S256x256 : Shape := ⟨2, ![256, 256]⟩
abbrev S128x384 : Shape := ⟨2, ![128, 384]⟩
abbrev S1x384x512 : Shape := ⟨3, ![1, 384, 512]⟩
abbrev S384x512 : Shape := ⟨2, ![384, 512]⟩
abbrev S128x64 : Shape := ⟨2, ![128, 64]⟩
abbrev S384x64 : Shape := ⟨2, ![384, 64]⟩
abbrev S128 : Shape := ⟨1, ![128]⟩
abbrev S128x1 : Shape := ⟨2, ![128, 1]⟩
abbrev S128x256 : Shape := ⟨2, ![128, 256]⟩
abbrev S128x512 : Shape := ⟨2, ![128, 512]⟩
abbrev S1x128x512 : Shape := ⟨3, ![1, 128, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .f32⟩
  | .local _ .vmem, ⟨6, _⟩ => ⟨S2x512x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v24 : BitVec 32 := Scalar.extui v3
  let c0_i32_14 : BitVec 32 := 0#32
  let v25 : BitVec 1 := Scalar.cmpi .ne v24 c0_i32_14
  v25

def k0_dev1 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_137 : BitVec 32 := 1#32
  let v336 : BitVec 32 := Scalar.subi v2 c1_i32_137
  let c1_i32_139 : BitVec 32 := 1#32
  let v337 : BitVec 32 := Scalar.muli v336 c1_i32_139
  let v338 : BitVec 32 := Scalar.addi c0_i32_140 v337
  v338.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 1 := Scalar.cmpi .slt v2 c15_i32
  let v26 : BitVec 32 := Scalar.extui v4
  let c0_i32_15 : BitVec 32 := 0#32
  let v27 : BitVec 1 := Scalar.cmpi .ne v26 c0_i32_15
  v27

def k0_dev2 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_137 : BitVec 32 := 1#32
  let v336 : BitVec 32 := Scalar.addi v2 c1_i32_137
  let c1_i32_139 : BitVec 32 := 1#32
  let v337 : BitVec 32 := Scalar.muli v336 c1_i32_139
  let v338 : BitVec 32 := Scalar.addi c0_i32_140 v337
  v338.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v32 : BitVec 32 := Scalar.extui v3
  let c0_i32_18 : BitVec 32 := 0#32
  let v33 : BitVec 1 := Scalar.cmpi .ne v32 c0_i32_18
  v33

def k0_dev3 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_137 : BitVec 32 := 1#32
  let v336 : BitVec 32 := Scalar.subi v2 c1_i32_137
  let c1_i32_140 : BitVec 32 := 1#32
  let v337 : BitVec 32 := Scalar.muli v336 c1_i32_140
  let v338 : BitVec 32 := Scalar.addi c0_i32_141 v337
  v338.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 1 := Scalar.cmpi .slt v2 c15_i32
  let v34 : BitVec 32 := Scalar.extui v4
  let c0_i32_19 : BitVec 32 := 0#32
  let v35 : BitVec 1 := Scalar.cmpi .ne v34 c0_i32_19
  v35

def k0_dev4 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_137 : BitVec 32 := 1#32
  let v336 : BitVec 32 := Scalar.addi v2 c1_i32_137
  let c1_i32_140 : BitVec 32 := 1#32
  let v337 : BitVec 32 := Scalar.muli v336 c1_i32_140
  let v338 : BitVec 32 := Scalar.addi c0_i32_141 v337
  v338.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S2x4096x256 : Shape := ⟨3, ![2, 4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S1x1x4096x1 : Shape := ⟨4, ![1, 1, 4096, 1]⟩
abbrev S2x4x64x4096 : Shape := ⟨4, ![2, 4, 64, 4096]⟩

abbrev nBuf : Space → Nat
  | .hbm => 66
  | .vmem => 0
  | .smem => 0
  | _ => 0

abbrev bufTy : (tb : Table) → Fin (tcTables nBuf tb) → BufTy
  | .hbm, ⟨0, _⟩ => ⟨S2x4096x512, .bf16⟩
  | .hbm, ⟨1, _⟩ => ⟨S512x256, .bf16⟩
  | .hbm, ⟨2, _⟩ => ⟨S2x4096x4x64, .bf16⟩
  | .hbm, ⟨3, _⟩ => ⟨S2x4096x4x64, .bf16⟩
  | .hbm, ⟨4, _⟩ => ⟨S256x512, .bf16⟩
  | .hbm, ⟨5, _⟩ => ⟨S2x4096x512, .f32⟩
  | .hbm, ⟨6, _⟩ => ⟨S512x256, .f32⟩
  | .hbm, ⟨7, _⟩ => ⟨S2x4096x4x64, .f32⟩
  | .hbm, ⟨8, _⟩ => ⟨S2x4096x4x64, .f32⟩
  | .hbm, ⟨9, _⟩ => ⟨S256x512, .f32⟩
  | .hbm, ⟨10, _⟩ => ⟨S2x4096x256, .f32⟩
  | .hbm, ⟨11, _⟩ => ⟨S2x4096x256, .bf16⟩
  | .hbm, ⟨12, _⟩ => ⟨S2x4096x256, .f32⟩
  | .hbm, ⟨13, _⟩ => ⟨S2x4096x4x64, .f32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i1⟩
  | .hbm, ⟨25, _⟩ => ⟨S2x4x4096x4096, .f32⟩
  | .hbm, ⟨26, _⟩ => ⟨S2x4x4096x4096, .bf16⟩
  | .hbm, ⟨27, _⟩ => ⟨S2x4x4096x4096, .f32⟩
  | .hbm, ⟨28, _⟩ => ⟨S_, .f32⟩
  | .hbm, ⟨29, _⟩ => ⟨S2x4x4096x4096, .f32⟩
  | .hbm, ⟨30, _⟩ => ⟨S2x4x4096x4096, .f32⟩
  | .hbm, ⟨31, _⟩ => ⟨S1x1x4096x4096, .i1⟩
  | .hbm, ⟨32, _⟩ => ⟨S_, .f32⟩
  | .hbm, ⟨33, _⟩ => ⟨S_, .f32⟩
  | .hbm, ⟨34, _⟩ => ⟨S2x4x4096x4096, .i1⟩
  | .hbm, ⟨35, _⟩ => ⟨S2x4x4096x4096, .f32⟩
  | .hbm, ⟨36, _⟩ => ⟨S2x4x4096x4096, .f32⟩
  | .hbm, ⟨37, _⟩ => ⟨S_, .f32⟩
  | .hbm, ⟨38, _⟩ => ⟨S2x4x4096, .f32⟩
  | .hbm, ⟨39, _⟩ => ⟨S2x4x4096x1, .f32⟩
  | .hbm, ⟨40, _⟩ => ⟨S2x4x4096x4096, .f32⟩
  | .hbm, ⟨41, _⟩ => ⟨S2x4x4096x4096, .f32⟩
  | .hbm, ⟨42, _⟩ => ⟨S2x4x4096x4096, .f32⟩
  | .hbm, ⟨43, _⟩ => ⟨S_, .i1⟩
  | .hbm, ⟨44, _⟩ => ⟨S4096, .i1⟩
  | .hbm, ⟨45, _⟩ => ⟨S1x1x4096x1, .i1⟩
  | .hbm, ⟨46, _⟩ => ⟨S_, .f32⟩
  | .hbm, ⟨47, _⟩ => ⟨S2x4x4096, .f32⟩
  | .hbm, ⟨48, _⟩ => ⟨S2x4x4096x1, .f32⟩
  | .hbm, ⟨49, _⟩ => ⟨S_, .f32⟩
  | .hbm, ⟨50, _⟩ => ⟨S_, .f32⟩
  | .hbm, ⟨51, _⟩ => ⟨S2x4x4096x1, .i1⟩
  | .hbm, ⟨52, _⟩ => ⟨S2x4x4096x1, .f32⟩
  | .hbm, ⟨53, _⟩ => ⟨S2x4x4096x1, .f32⟩
  | .hbm, ⟨54, _⟩ => ⟨S2x4x4096x4096, .f32⟩
  | .hbm, ⟨55, _⟩ => ⟨S2x4x4096x4096, .f32⟩
  | .hbm, ⟨56, _⟩ => ⟨S1x1x4096x1, .i1⟩
  | .hbm, ⟨57, _⟩ => ⟨S_, .f32⟩
  | .hbm, ⟨58, _⟩ => ⟨S_, .f32⟩
  | .hbm, ⟨59, _⟩ => ⟨S2x4x4096x4096, .i1⟩
  | .hbm, ⟨60, _⟩ => ⟨S2x4x4096x4096, .f32⟩
  | .hbm, ⟨61, _⟩ => ⟨S2x4x4096x4096, .f32⟩
  | .hbm, ⟨62, _⟩ => ⟨S2x4x64x4096, .f32⟩
  | .hbm, ⟨63, _⟩ => ⟨S2x4096x4x64, .f32⟩
  | .hbm, ⟨64, _⟩ => ⟨S2x4096x256, .f32⟩
  | .hbm, ⟨65, _⟩ => ⟨S2x4096x512, .f32⟩
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Proof.Ring.lean ====
/-
# The exchange of key/value rows between neighbouring devices

The sixteen devices stand in a line; device `c` holds 256 sequence rows of keys and values. A device keeps a buffer
of 512 rows: its own 256 in the middle (rows 128–383), 128 rows of the device on its left below them (rows 0–127) and
128 rows of the device on its right above them (rows 384–511). At the two ends of the line a halo with no neighbour is
filled with zeros by the device itself.

Both directions are treated by one text: a side `s : Bool` is `true` for the left and `false` for the right.
This module fixes what every buffer row holds after the exchange (`kvFull`), the protocol of the semaphores (`sched`), what
every device owes at launch and the order in which the cells may be waited on.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Resources: the staging copies' rounds and the exchange's rounds (duties named by a side) -/

abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## Neighbours -/

set_option backward.proofsInPublic true in
/-- The device on side `s` of `c`, wrapping around at the ends (where the wrapped one is never addressed). -/
def nb (s : Bool) (c : Dev nD) : Dev nD :=
  ⟨(c.val + if s then 15 else 1) % 16, Nat.mod_lt _ (by decide)⟩

/-- Whether the line goes on at side `s` of device `c`. -/
abbrev has (s : Bool) (c : Dev nD) : Prop := if s then 0 < c.val else c.val < 15

instance (s : Bool) (c : Dev nD) : Decidable (has s c) := by unfold has; infer_instance

theorem nb_nb (s : Bool) (c : Dev nD) : nb (!s) (nb s c) = c := by revert s c; decide
theorem nb_nb' (s : Bool) (c : Dev nD) : nb s (nb (!s) c) = c := by revert s c; decide
theorem nb_inj {s : Bool} {a b : Dev nD} (h : nb s a = nb s b) : a = b := by rw [← nb_nb s a, h, nb_nb]
theorem nb_ne (c : Dev nD) : nb true c ≠ nb false c := by revert c; decide
/-- A neighbour sees the device on its opposite side. -/
theorem has_nb (s : Bool) (c : Dev nD) : has (!s) (nb s c) ↔ has s c := by revert s c; decide
/-- Every device has a neighbour on at least one side. -/
theorem has_other (s : Bool) (c : Dev nD) (h : ¬ has s c) : has (!s) c := by revert s c; decide

/-- Stepping to side `s` is a permutation of the devices. -/
def step (s : Bool) : Dev nD ≃ Dev nD := ⟨nb s, nb (!s), nb_nb s, nb_nb' s⟩

/-! ## Buffers and cells -/

abbrev xM : Memref sig .tc .vmem S2x256x512 .bf16 := Memref.whole cc0_stg0_0
abbrev wqM : Memref sig .tc .vmem S512x256 .bf16 := Memref.whole cc0_stg1_0
abbrev kM : Memref sig .tc .vmem S2x256x4x64 .bf16 := Memref.whole cc0_stg2_0
abbrev vM : Memref sig .tc .vmem S2x256x4x64 .bf16 := Memref.whole cc0_stg3_0
abbrev woM : Memref sig .tc .vmem S256x512 .bf16 := Memref.whole cc0_stg4_0
abbrev oM : Memref sig .tc .vmem S2x256x512 .f32 := Memref.whole cc0_stg5_0
abbrev kvM : Memref sig .tc .vmem S2x512x512 .bf16 := Memref.whole cc0_scratch0

abbrev barS : Sem sig := (SemArray.scalar (sig.barrier 0 rfl) : Sems sig S_).sem
/-- The semaphore counting the rows sent to side `s`. -/
abbrev sendS : Bool → DmaSem sig
  | true => ((cc0_scratch1.slice (Rect.unit (s := S2) ![1] S1.size inb_S2_S1_1)).squeeze S_ squeezes_S1_S_).sem
  | false => ((cc0_scratch1.slice (Rect.unit (s := S2) ![0] S1.size inb_S2_S1_0)).squeeze S_ squeezes_S1_S_).sem
/-- The semaphore counting the rows received from side `s`. -/
abbrev recvS : Bool → DmaSem sig
  | true => ((cc0_scratch2.slice (Rect.unit (s := S2) ![0] S1.size inb_S2_S1_0)).squeeze S_ squeezes_S1_S_).sem
  | false => ((cc0_scratch2.slice (Rect.unit (s := S2) ![1] S1.size inb_S2_S1_1)).squeeze S_ squeezes_S1_S_).sem

abbrev barCell (c : Dev nD) : GSem nD τ sig := ((c : Thread nD τ), .reg barS)
abbrev sendCell (s : Bool) (c : Dev nD) : GSem nD τ sig := ((c : Thread nD τ), .dma (sendS s))
abbrev recvCell (s : Bool) (c : Dev nD) : GSem nD τ sig := ((c : Thread nD τ), .dma (recvS s))

/-- The four transfer semaphores of a device, which the launch hands out. -/
abbrev osem : Fin 4 → SemLoc sig := fun
  | 0 => .dma (sendS true) | 1 => .dma (sendS false) | 2 => .dma (recvS true) | 3 => .dma (recvS false)
/-- All five semaphores of the exchange. -/
abbrev csem : Fin 5 → SemLoc sig := fun
  | 0 => .reg barS | 1 => .dma (sendS true) | 2 => .dma (sendS false) | 3 => .dma (recvS true) | 4 => .dma (recvS false)
abbrev kcell (ck : Dev nD × Fin 5) : GSem nD τ sig := ((ck.1 : Thread nD τ), csem ck.2)
/-- Where the send and receive semaphores of side `s` stand among the five. -/
abbrev iS (s : Bool) : Fin 5 := if s then 1 else 2
abbrev iR (s : Bool) : Fin 5 := if s then 3 else 4

/-! ## Rows of the key/value buffer -/

abbrev kvLoc (c : Dev nD) : Loc nD τ sig := (c : Thread nD τ).loc cc0_scratch0

/-- The elements of the buffer in rows `lo ≤ r < hi`. -/
def rows (lo hi : ℕ) : Finset S2x512x512.Idx := Finset.univ.filter fun i => lo ≤ (i 1).val ∧ (i 1).val < hi

theorem mem_rows {lo hi : ℕ} {i : S2x512x512.Idx} : i ∈ rows lo hi ↔ lo ≤ (i 1).val ∧ (i 1).val < hi := by
  unfold rows; rw [Finset.mem_filter]; exact ⟨fun h => h.2, fun h => ⟨Finset.mem_univ _, h⟩⟩

theorem rows_disjoint {a b a' b' : ℕ} (h : b ≤ a') : Disjoint (rows a b) (rows a' b') := by
  rw [Finset.disjoint_left]; intro i hi hi'; rw [mem_rows] at hi hi'; omega

theorem rows_union {a b d : ℕ} (h₁ : a ≤ b) (h₂ : b ≤ d) : rows a b ∪ rows b d = rows a d := by
  ext i; rw [Finset.mem_union, mem_rows, mem_rows, mem_rows]; omega

theorem rows_all : rows 0 512 = Finset.univ := by
  ext i; rw [mem_rows]; exact ⟨fun _ => Finset.mem_univ _, fun _ => ⟨Nat.zero_le _, (i 1).isLt⟩⟩

/-- Rows `lo ≤ r < hi` of device `c`'s buffer, held at share `q` with contents `f`. -/
def kvPts (c : Dev nD) (lo hi : ℕ) (q : PosShare TreeShare) (f : Buf (Elt F) (kvLoc c)) : sProp 𝕄 :=
  kvLoc c ↦[rows lo hi]{q} f

omit [FloatOps F] [Named F] in
instance kvPts_storable (c : Dev nD) (lo hi q f) : BI.Storable (upEmb : UEmb _ 𝕄) (kvPts (F := F) c lo hi q f) := by
  unfold kvPts; infer_instance

/-! ## What the rows hold -/

/-- The staged blocks of the five arguments on device `c`. -/
def xStg (c : Dev nD) : (cc0_stg0_0 : Ref sig .tc).ty.Contents (Elt F) :=
  (win0_0.blk (0 : Fin 1)).view.read (Elt F) ((s₀ m ρ).mem ((c : Thread nD τ).loc main_arg0))
def wqStg (c : Dev nD) : (cc0_stg1_0 : Ref sig .tc).ty.Contents (Elt F) :=
  (win0_1.blk (0 : Fin 1)).view.read (Elt F) ((s₀ m ρ).mem ((c : Thread nD τ).loc main_arg1))
def kStg (c : Dev nD) : (cc0_stg2_0 : Ref sig .tc).ty.Contents (Elt F) :=
  (win0_2.blk (0 : Fin 1)).view.read (Elt F) ((s₀ m ρ).mem ((c : Thread nD τ).loc main_arg2))
def vStg (c : Dev nD) : (cc0_stg3_0 : Ref sig .tc).ty.Contents (Elt F) :=
  (win0_3.blk (0 : Fin 1)).view.read (Elt F) ((s₀ m ρ).mem ((c : Thread nD τ).loc main_arg3))
def woStg (c : Dev nD) : (cc0_stg4_0 : Ref sig .tc).ty.Contents (Elt F) :=
  (win0_4.blk (0 : Fin 1)).view.read (Elt F) ((s₀ m ρ).mem ((c : Thread nD τ).loc main_arg4))

/-- The element `(b, r, j)` of a block of three axes; every coordinate is taken within its axis. -/
def at3 {α : Type} {n₀ n₁ n₂ : ℕ} [NeZero n₀] [NeZero n₁] [NeZero n₂]
    (v : (⟨3, ![n₀, n₁, n₂]⟩ : Shape).Idx → α) (b r j : ℕ) : α :=
  v (Fin.cons (Fin.ofNat n₀ b) (Fin.cons (Fin.ofNat n₁ r) (Fin.cons (Fin.ofNat n₂ j) finZeroElim)))

theorem at3_eq {α : Type} {n₀ n₁ n₂ : ℕ} [NeZero n₀] [NeZero n₁] [NeZero n₂]
    (v : (⟨3, ![n₀, n₁, n₂]⟩ : Shape).Idx → α) (i : (⟨3, ![n₀, n₁, n₂]⟩ : Shape).Idx) {b r j : ℕ}
    (hb : (i 0).val = b) (hr : (i 1).val = r) (hj : (i 2).val = j) : at3 v b r j = v i := by
  subst hb hr hj
  unfold at3; congr 1; funext a
  match a with
  | ⟨0, _⟩ => exact Fin.ext (Nat.mod_eq_of_lt (i 0).isLt)
  | ⟨1, _⟩ => exact Fin.ext (Nat.mod_eq_of_lt (i 1).isLt)
  | ⟨2, _⟩ => exact Fin.ext (Nat.mod_eq_of_lt (i 2).isLt)

/-- Row `r` (counted from the first of its own 256) and column `j` of device `c`'s own rows: the first 256 columns are
    keys, the last 256 values. -/
def own (c : Dev nD) (b r j : ℕ) : Elt F .bf16 :=
  if j < 256 then at3 (n₀ := 2) (n₁ := 256) (n₂ := 256) (k0_pay3 (kStg m ρ c)) b r j
  else at3 (n₀ := 2) (n₁ := 256) (n₂ := 256) (k0_pay4 (vStg m ρ c)) b r (j - 256)

/-- Row `r` and column `j` of device `c`'s buffer once the exchange is over. -/
def kvAt (c : Dev nD) (b r j : ℕ) : Elt F .bf16 :=
  if r < 128 then
    if has true c then own m ρ (nb true c) b (r + 128) j
    else at3 (n₀ := 2) (n₁ := 128) (n₂ := 512) (k0_pay5 (F := F)) b r j
  else if r < 384 then own m ρ c b (r - 128) j
  else if has false c then own m ρ (nb false c) b (r - 384) j
  else at3 (n₀ := 2) (n₁ := 128) (n₂ := 512) (k0_pay6 (F := F)) b (r - 384) j

/-- The buffer of device `c` once the exchange is over. -/
def kvFull (c : Dev nD) : Buf (Elt F) (kvLoc c) := fun (i : S2x512x512.Idx) => kvAt m ρ c (i 0).val (i 1).val (i 2).val

/-- The first of the 128 rows received from side `s`. -/
abbrev lo (s : Bool) : ℕ := if s then 0 else 384
/-- The first of the 128 rows sent to side `s`. -/
abbrev src (s : Bool) : ℕ := if s then 128 else 256

/-- The rectangle of 128 rows from `l` on. -/
abbrev rowRect (l : ℕ) (inb : ∀ a, (![0, l, 0] : Fin 3 → ℕ) a + S2x128x512.size a ≤ S2x512x512.size a) : Rect S2x512x512 :=
  Rect.unit (s := S2x512x512) ![0, l, 0] S2x128x512.size inb

theorem rowRect_set (l : ℕ) (inb) : (rowRect l inb).set = rows l (l + 128) := by
  ext i
  rw [Rect.mem_set_unit, mem_rows]
  constructor
  · intro h; exact h 1
  · intro h a
    match a with
    | ⟨0, _⟩ => exact ⟨Nat.zero_le _, by simpa using (i 0).isLt⟩
    | ⟨1, _⟩ => exact h
    | ⟨2, _⟩ => exact ⟨Nat.zero_le _, by simpa using (i 2).isLt⟩

theorem slice_set (l : ℕ) (inb) (h) : (kvM.slice (rowRect l inb) h).view.set = rows l (l + 128) :=
  (View.set_slice_whole _ _).trans (rowRect_set l inb)

theorem kv_setOn (A : Finset S2x512x512.Idx) : (kvM : Memref sig .tc .vmem S2x512x512 .bf16).view.setOn A = A :=
  Finset.map_refl

theorem kv_access_set (r : Rect S2x512x512) : (kvM.access r : View sig .tc _ _ _).set = r.set := View.set_slice_whole _ _

omit [FloatOps F] [Named F] in
/-- A store through a rectangle of the buffer puts its vector's element `k` at the rectangle's place `k`. -/
theorem kv_write_emb (r : Rect S2x512x512) (f : Buf (Elt F) (kvLoc (0 : Dev nD))) (w : r.shape.Idx → Elt F .bf16) (k : r.shape.Idx) :
    (kvM.access r).write (Elt F) f w Finset.univ (r.emb k) = w k :=
  View.write_emb_of_mem (v := (kvM.access r : View sig .tc _ _ _)) (Val := Elt F) f w (Finset.mem_univ k)

omit [FloatOps F] [Named F] in
/-- And leaves the rest. -/
theorem kv_write_out (r : Rect S2x512x512) (f : Buf (Elt F) (kvLoc (0 : Dev nD))) (w : r.shape.Idx → Elt F .bf16)
    (i : S2x512x512.Idx) (hi : i ∉ r.set) : (kvM.access r).write (Elt F) f w Finset.univ i = f i :=
  View.write_of_not_mem (v := (kvM.access r : View sig .tc _ _ _)) (Val := Elt F) f w Finset.univ
    (by rw [View.setOn_univ, kv_access_set]; exact hi)

theorem exists_emb {r : Rect S2x512x512} {i : S2x512x512.Idx} (hi : i ∈ r.set) : ∃ k, r.emb k = i := by
  rw [← Rect.map_emb_univ] at hi
  obtain ⟨k, -, hk⟩ := Finset.mem_map.mp hi
  exact ⟨k, hk⟩

/-- The credit of one transfer of 128 rows. -/
abbrev N : ℕ := (kvM.slice (rowRect 0 inb_S2x512x512_S2x128x512_0_0_0) (fun _ => rfl)).view.dmaCredit
theorem credit_eq (l : ℕ) (inb hst) : (kvM.slice (rowRect l inb) hst).view.dmaCredit = N := rfl
theorem N_pos : 0 < N := View.dmaCredit_pos _ (by decide)

/-- The rows a device sends to side `s` are the rows the neighbour there keeps on its opposite side. -/
theorem sent_eq (s : Bool) (c : Dev nD) (h : has s c) (b r j : ℕ) (hr : r < 128) :
    kvAt m ρ c b (src s + r) j = kvAt m ρ (nb s c) b (lo (!s) + r) j := by
  have h' : has (!s) (nb s c) := (has_nb s c).mpr h
  have hb := nb_nb s c
  cases s
  · rw [Bool.not_false] at h' hb
    show kvAt m ρ c b (256 + r) j = kvAt m ρ (nb false c) b (0 + r) j
    unfold kvAt
    rw [if_neg (by omega), if_pos (by omega), if_pos (by omega), if_pos h', hb]
    congr 1; omega
  · rw [Bool.not_true] at h' hb
    show kvAt m ρ c b (128 + r) j = kvAt m ρ (nb true c) b (384 + r) j
    unfold kvAt
    rw [if_neg (by omega), if_pos (by omega), if_neg (by omega), if_neg (by omega), if_pos h', hb]
    congr 1; omega

/-- What lands on the halo of `nb s c` from device `c` is what the halo holds at the end. -/
theorem landed_eq (s : Bool) (c : Dev nD) (h : has s c) (inb inb' hs hs')
    (fd : Buf (Elt F) (kvLoc (nb s c))) :
    ∀ i ∈ rows (lo (!s)) (lo (!s) + 128),
      (kvM.slice (rowRect (lo (!s)) inb') hs').view.write (Elt F) fd
        ((kvM.slice (rowRect (src s) inb) hs).view.read (Elt F) (kvFull m ρ c)) Finset.univ i = kvFull m ρ (nb s c) i := by
  intro i hi
  obtain ⟨k, rfl⟩ : ∃ k, (kvM.slice (rowRect (lo (!s)) inb') hs').view.emb k = i := by
    rw [← slice_set _ inb' hs'] at hi
    obtain ⟨k, -, hk⟩ := Finset.mem_map.mp hi
    exact ⟨k, hk⟩
  refine (View.write_emb_of_mem (v := (kvM.slice (rowRect (lo (!s)) inb') hs').view) (Val := Elt F) _ _ (Finset.mem_univ k)).trans ?_
  show kvAt m ρ c (0 + 1 * (k 0).val) (src s + 1 * (k 1).val) (0 + 1 * (k 2).val)
    = kvAt m ρ (nb s c) (0 + 1 * (k 0).val) (lo (!s) + 1 * (k 1).val) (0 + 1 * (k 2).val)
  have hk : (k 1).val < 128 := (k 1).isLt
  rw [one_mul, one_mul, one_mul]
  exact sent_eq m ρ s c h _ _ _ hk

/-! ## The protocol -/

/-- What the signal of the neighbour on side `s` hands device `c`: that neighbour's halo rows on the opposite side, to be
    written into, and that the neighbour is ready to count their arrival. -/
def barPay (s : Bool) (c : Dev nD) : sProp 𝕄 :=
  iprop((∃ f, kvPts (nb s c) (lo (!s)) (lo (!s) + 128) fullShare f) ∗ reached EX (recvCell (!s) (nb s c)) 0)
/-- What the arrival from side `s` hands device `c`: its halo rows on that side, filled. -/
def recvPay (s : Bool) (c : Dev nD) : sProp 𝕄 := kvPts c (lo s) (lo s + 128) fullShare (kvFull m ρ c)
/-- What the departure to side `s` hands back: the lent half of the rows sent. -/
def sendPay (s : Bool) (c : Dev nD) : sProp 𝕄 := kvPts c (src s) (src s + 128) fullShare.right (kvFull m ρ c)

/-- One round. A device's barrier cell has a duty per neighbour it has, of one unit; its send and receive cells of a
    side have one duty if the neighbour there exists, of the transfer's credit. A duty is named by its side. -/
def sched : Rounds.Schedule (GSem nD τ sig) Bool 𝕄 where
  duties g r := Finset.univ.filter fun s => r = 0 ∧ g.1.2 = .tc ∧ has s g.1.1
    ∧ (g.2 = .reg barS ∨ g.2 = .dma (sendS s) ∨ g.2 = .dma (recvS s))
  unitless _ := False
  amount g _ _ := if g.2 = .reg barS then 1 else N
  payload g _ s :=
    if g.2 = .reg barS then barPay s g.1.1
    else if g.2 = .dma (recvS s) then recvPay m ρ s g.1.1
    else if g.2 = .dma (sendS s) then sendPay m ρ s g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched (F := F) m ρ).payload g r d) := by
  show BI.Storable upEmb (if g.2 = .reg barS then barPay d g.1.1 else if g.2 = .dma (recvS d) then recvPay m ρ d g.1.1
    else if g.2 = .dma (sendS d) then sendPay m ρ d g.1.1 else iprop(emp))
  unfold barPay recvPay sendPay
  (repeat' split) <;> infer_instance

section Sched
variable (s : Bool) (c : Dev nD)

theorem send_ne_bar : (SemLoc.dma (sendS s) : SemLoc sig) ≠ .reg barS := fun h => by cases h
theorem recv_ne_bar : (SemLoc.dma (recvS s) : SemLoc sig) ≠ .reg barS := fun h => by cases h
theorem send_ne_recv (s s' : Bool) : (SemLoc.dma (sendS s) : SemLoc sig) ≠ .dma (recvS s') := by revert s s'; decide
theorem send_inj {s s' : Bool} (h : (SemLoc.dma (sendS s) : SemLoc sig) = .dma (sendS s')) : s = s' := by revert s s'; decide
theorem recv_inj {s s' : Bool} (h : (SemLoc.dma (recvS s) : SemLoc sig) = .dma (recvS s')) : s = s' := by revert s s'; decide

/-- The number of units the neighbour on side `s` sends: one if it exists. -/
def one (s : Bool) (c : Dev nD) : ℕ := if has s c then 1 else 0
/-- The credit moved across side `s`: one transfer's if the neighbour there exists. -/
def amt (s : Bool) (c : Dev nD) : ℕ := if has s c then N else 0

theorem duties_bar : (sched (F := F) m ρ).duties (barCell c) 0 = Finset.univ.filter (has · c) :=
  Finset.filter_congr fun s _ => ⟨fun h => h.2.2.1, fun h => ⟨rfl, rfl, h, .inl rfl⟩⟩
theorem duties_send : (sched (F := F) m ρ).duties (sendCell s c) 0 = if has s c then {s} else ∅ := by
  ext d
  unfold sched
  rw [Finset.mem_filter]
  constructor
  · rintro ⟨-, -, -, h, h' | h' | h'⟩
    · exact absurd h' (send_ne_bar s)
    · obtain rfl := send_inj h'; rw [if_pos h]; exact Finset.mem_singleton_self _
    · exact absurd h' (send_ne_recv s d)
  · intro h
    split at h
    · rename_i hs; obtain rfl := Finset.mem_singleton.mp h
      exact ⟨Finset.mem_univ _, rfl, rfl, hs, .inr (.inl rfl)⟩
    · exact absurd h (Finset.notMem_empty _)
theorem duties_recv : (sched (F := F) m ρ).duties (recvCell s c) 0 = if has s c then {s} else ∅ := by
  ext d
  unfold sched
  rw [Finset.mem_filter]
  constructor
  · rintro ⟨-, -, -, h, h' | h' | h'⟩
    · exact absurd h' (recv_ne_bar s)
    · exact absurd h'.symm (send_ne_recv d s)
    · obtain rfl := recv_inj h'; rw [if_pos h]; exact Finset.mem_singleton_self _
  · intro h
    split at h
    · rename_i hs; obtain rfl := Finset.mem_singleton.mp h
      exact ⟨Finset.mem_univ _, rfl, rfl, hs, .inr (.inr rfl)⟩
    · exact absurd h (Finset.notMem_empty _)
/-- No duty after the first round. -/
theorem duties_later (g : GSem nD τ sig) : ∀ r, 1 ≤ r → (sched (F := F) m ρ).duties g r = ∅ := fun r hr =>
  Finset.filter_eq_empty_iff.mpr fun s _ h => by omega

theorem amount_bar (d : Bool) : (sched (F := F) m ρ).amount (barCell c) 0 d = 1 := by dsimp only [sched]; exact if_pos rfl
theorem amount_send (d : Bool) : (sched (F := F) m ρ).amount (sendCell s c) 0 d = N := by
  dsimp only [sched]; exact if_neg (send_ne_bar s)
theorem amount_recv (d : Bool) : (sched (F := F) m ρ).amount (recvCell s c) 0 d = N := by
  dsimp only [sched]; exact if_neg (recv_ne_bar s)

theorem expect_bar : (sched (F := F) m ρ).expect (barCell c) 0 = one true c + one false c := by
  unfold Schedule.expect Schedule.amountOf
  rw [duties_bar, Finset.sum_congr rfl fun d _ => amount_bar m ρ c d, Finset.sum_filter, Fintype.sum_bool]
  rfl
theorem expect_send : (sched (F := F) m ρ).expect (sendCell s c) 0 = amt s c := by
  unfold Schedule.expect Schedule.amountOf amt; rw [duties_send]
  split
  · rw [Finset.sum_singleton, amount_send]
  · rw [Finset.sum_empty]
theorem expect_recv : (sched (F := F) m ρ).expect (recvCell s c) 0 = amt s c := by
  unfold Schedule.expect Schedule.amountOf amt; rw [duties_recv]
  split
  · rw [Finset.sum_singleton, amount_recv]
  · rw [Finset.sum_empty]

theorem payload_bar : (sched (F := F) m ρ).payload (barCell c) 0 s = barPay s c := by dsimp only [sched]; exact if_pos rfl
theorem payload_send : (sched (F := F) m ρ).payload (sendCell s c) 0 s = sendPay m ρ s c := by
  dsimp only [sched]; rw [if_neg (send_ne_bar s), if_neg (send_ne_recv s s), if_pos rfl]
theorem payload_recv : (sched (F := F) m ρ).payload (recvCell s c) 0 s = recvPay m ρ s c := by
  dsimp only [sched]; rw [if_neg (recv_ne_bar s), if_pos rfl]

end Sched

/-! ## What a device owes at launch; the order of the waits -/

/-- The credit of the rows device `c` sends to side `s`. -/
def owR (s : Bool) (c : Dev nD) : CellTallies nD τ sig Unit := tallyAt (recvCell (!s) (nb s c)) () (amt s c)
/-- The unit device `c` signals to side `s`. -/
def owB (s : Bool) (c : Dev nD) : CellTallies nD τ sig Unit := tallyAt (barCell (nb s c)) () (one s c)
/-- Everything device `c` owes: listed so that the steps in program order each settle the last summand. -/
def O₀ (c : Dev nD) : CellTallies nD τ sig Unit := owR false c + owR true c + owB false c + owB true c

def L (g : GSem nD τ sig) : Finset Unit := if g.1.2 = .tc then {()} else ∅
/-- Barrier cells stand at 1, receive cells at 2, all others at 0. -/
def lv (g : GSem nD τ sig) (_ : Unit) : ℕ :=
  if g.2 = .reg barS then 1 else if g.2 = .dma (recvS true) ∨ g.2 = .dma (recvS false) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (s : Bool) (c : Dev nD) : lv (recvCell s c) () = 2 := by
  unfold lv; rw [if_neg (recv_ne_bar s)]; cases s
  · exact if_pos (.inr rfl)
  · exact if_pos (.inl rfl)

theorem owR_pos {s : Bool} {c : Dev nD} {g : GSem nD τ sig} {u : Unit} (h : 0 < owR s c g u) : g = recvCell (!s) (nb s c) := by
  unfold owR at h; rw [tallyAt_apply] at h
  by_contra hn; rw [if_neg fun h' => hn h'.1] at h; exact Nat.lt_irrefl 0 h
theorem owB_pos {s : Bool} {c : Dev nD} {g : GSem nD τ sig} {u : Unit} (h : 0 < owB s c g u) : g = barCell (nb s c) := by
  unfold owB at h; rw [tallyAt_apply] at h
  by_contra hn; rw [if_neg fun h' => hn h'.1] at h; exact Nat.lt_irrefl 0 h

/-- A device owes to receive cells and barrier cells only. -/
theorem O₀_pos {c : Dev nD} {g : GSem nD τ sig} {u : Unit} (h : 0 < O₀ c g u) : ∃ s d, g = recvCell s d ∨ g = barCell d := by
  unfold O₀ at h
  rw [Pi.add_apply, Finsupp.add_apply, Pi.add_apply, Finsupp.add_apply, Pi.add_apply, Finsupp.add_apply] at h
  rcases Nat.eq_zero_or_pos (owR false c g u) with h1 | h1
  · rcases Nat.eq_zero_or_pos (owR true c g u) with h2 | h2
    · rcases Nat.eq_zero_or_pos (owB false c g u) with h3 | h3
      · exact ⟨true, _, .inr (owB_pos (s := true) (u := u) (by rw [h1, h2, h3] at h; simpa using h))⟩
      · exact ⟨true, _, .inr (owB_pos h3)⟩
    · exact ⟨_, _, .inl (owR_pos h2)⟩
  · exact ⟨_, _, .inl (owR_pos h1)⟩

/-- A staging copy's cell may be waited on whatever a device owes before or after its body. -/
theorem mayWait_stage (c : Dev nD) (q : DmaSem sig) (hq : ∀ s, SemLoc.dma q ≠ (.dma (recvS s) : SemLoc sig))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨s, d, rfl | rfl⟩ := O₀_pos hg <;> exact Finset.mem_singleton_self _)
      (fun p hp => by
        rw [Finset.mem_singleton.mp hp]; dsimp only [lv]
        rw [if_neg (fun h => by cases h), if_neg (fun h => h.elim (hq true) (hq false))])
      (fun g u hg => by
        obtain ⟨s, d, rfl | rfl⟩ := O₀_pos hg
        · rw [lv_recv]; decide
        · rw [lv_bar]; decide)
  · rw [MayWait_zero]; iintro -; iempintro

/-- At its barrier waits a device owes arrivals only, and receive cells stand above barrier cells. -/
theorem mayWait_bar (c : Dev nD) :
    (levAts L lv : sProp 𝕄) ⊢ MayWait (c : Thread nD τ) (.reg barS) () (owR false c + owR true c) := by
  have key : ∀ {g : GSem nD τ sig} {u : Unit}, 0 < (owR false c + owR true c) g u → ∃ s d, g = recvCell s d := by
    intro g u hg
    rw [Pi.add_apply, Finsupp.add_apply] at hg
    rcases Nat.eq_zero_or_pos (owR false c g u) with h1 | h1
    · exact ⟨_, _, owR_pos (s := true) (u := u) (by rw [h1] at hg; simpa using hg)⟩
    · exact ⟨_, _, owR_pos h1⟩
  refine MayOwe.of_cut (L := L) (lev := lv) 1 (fun p hp => by rw [Finset.mem_singleton.mp hp, L_tc]; exact Finset.mem_singleton_self _)
    (fun g u hg => by obtain ⟨s, d, rfl⟩ := key hg; exact Finset.mem_singleton_self _)
    (fun p hp => by rw [Finset.mem_singleton.mp hp]; exact le_of_eq (lv_bar c))
    (fun g u hg => by obtain ⟨s, d, rfl⟩ := key hg; rw [lv_recv]; decide)

end Cert.K
-- ==== Proof.Steps.lean ====
/-
# The conditional steps of the exchange

At an end of the line one of the two directions is left out: every signal, wait, transfer and filling of a halo stands
under a test of the device's position. Each theorem here takes one such step — test included — for any device: what it
holds before and after is stated with the same condition, so the body is run once, for all positions at a time.
-/
module

public import proofs.«01_k».proof.Proof.Ring

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

variable (K : Dev nD × Fin 5 → ℕ)

/-- Two conjunctions over a set's two parts make the one over the set. -/
theorem bigSep_rejoin {M : Type} [URA M] {I : Type} [DecidableEq I] {A B : Finset I} (h : A ⊆ B) (Φ : I → sProp M) :
    iprop(bigSep A Φ ∗ bigSep (B \ A) Φ) ⊢ bigSep B Φ := Entails.of_eq (bigSep_sdiff_split h).symm

/-! ## What a device shares and holds, side by side -/

/-- The invariants and marks device `c` uses at side `s`: of its own two cells there and of the neighbour's two cells it pays. -/
def shared (s : Bool) (c : Dev nD) : sProp 𝕄 :=
  iprop(cellInv EX (sched m ρ) (K (c, iS s)) (sendCell s c) ∗ cellInv EX (sched m ρ) (K (c, iR s)) (recvCell s c)
    ∗ cellInv EX (sched m ρ) (K (nb s c, 0)) (barCell (nb s c)) ∗ cellInv EX (sched m ρ) (K (nb s c, iR (!s))) (recvCell (!s) (nb s c))
    ∗ reached EX (sendCell s c) 0 ∗ reached EX (recvCell s c) 0
    ∗ reached EX (barCell (nb s c)) 0 ∗ reached EX (recvCell (!s) (nb s c)) 0)

instance shared_persistent (s : Bool) (c : Dev nD) : BI.Persistent (shared m ρ K s c) := by unfold shared; infer_instance

/-- The halo of side `s` before the signal: to be given away if the neighbour exists, else filled. -/
def haloA (s : Bool) (c : Dev nD) : sProp 𝕄 :=
  if has s c then iprop(∃ f, kvPts c (lo s) (lo s + 128) fullShare f) else kvPts c (lo s) (lo s + 128) fullShare (kvFull m ρ c)
/-- The halo of side `s` between signal and arrival: given away if the neighbour exists. -/
def haloB (s : Bool) (c : Dev nD) : sProp 𝕄 :=
  if has s c then iprop(emp) else kvPts c (lo s) (lo s + 128) fullShare (kvFull m ρ c)
/-- What the neighbour on side `s`, if it exists, has handed over. -/
def gotten (s : Bool) (c : Dev nD) : sProp 𝕄 := if has s c then barPay s c else iprop(emp)
/-- The lent half of the rows to be sent to side `s` while they travel. -/
def lent (s : Bool) (c : Dev nD) : sProp 𝕄 := if has s c then iprop(emp) else sendPay m ρ s c

/-! ## Filling a halo -/

/-- A halo with no neighbour behind it is filled; a halo with one is left as it is. -/
theorem fill (s : Bool) (c : Dev nD) {P : Prop} [Decidable P] (hP : P ↔ ¬ has s c) (l : ℕ) (hl : l = lo s)
    (inb : ∀ a, (![0, l, 0] : Fin 3 → ℕ) a + S2x128x512.size a ≤ S2x512x512.size a)
    (w : (rowRect l inb).shape.Idx → Elt F .bf16)
    (hw : ¬ has s c → ∀ k, w k = kvAt m ρ c (k 0).val (lo s + (k 1).val) (k 2).val)
    (hld : P → kvM.view.LoadsAt (rowRect l inb).toLoadRect)
    (hst : P → (kvM.access (rowRect l inb)).Stores Finset.univ)
    (hu : P → ((Finset.univ : Finset (rowRect l inb).shape.Idx) = Finset.univ ∨ ∀ a, (rowRect l inb).stride a = 1))
    {α : Type} {Q : α → sProp 𝕄} {k : Prog (TpuEff nD τ sig (Elt F) Λ₀ .tc) α} (f : Buf (Elt F) (kvLoc c)) :
    kvPts c (lo s) (lo s + 128) fullShare f
      ⊢ iprop((haloA m ρ s c -∗ wp frame (wpE (defs₀ (F := F)) 𝒱₀ (c : Thread nD τ) none) Set.univ k Q)
          -∗ wp frame (wpE (defs₀ (F := F)) 𝒱₀ (c : Thread nD τ) none) Set.univ
            (if h : P then .op (.load kvM (rowRect l inb).toLoadRect (hld h)) fun _ =>
              .op (.store kvM (rowRect l inb) w Finset.univ (hst h) (hu h)) fun _ => k else k) Q) := by
  subst hl
  by_cases h : P
  · have hn := hP.mp h
    rw [dif_pos h]
    unfold haloA kvPts
    rw [if_neg hn]
    iintro Hf Hk
    iapply (wp_load 𝒱₀ (c : Thread nD τ) none Set.univ (m := kvM) (S := rows (lo s) (lo s + 128))
      (by rw [← rowRect_set _ inb]; exact subset_of_eq (kv_setOn _))) $$ Hf
    iintro Hf
    iapply (wp_store 𝒱₀ (c : Thread nD τ) none Set.univ (m := kvM) (S := rows (lo s) (lo s + 128)) (r := rowRect (lo s) inb)
      (by rw [View.setOn_univ]; exact subset_of_eq ((View.set_slice_whole _ _).trans (rowRect_set _ inb)))) $$ Hf
    iintro Hf
    iapply Hk
    iapply (Entails.of_eq (pointsTo_congr (g := kvFull m ρ c) ?_)) $$ Hf
    intro i hi
    rw [← rowRect_set _ inb] at hi
    obtain ⟨j, rfl⟩ := exists_emb hi
    refine (kv_write_emb (rowRect (lo s) inb) f w j).trans ((hw hn j).trans ?_)
    show _ = kvAt m ρ c (0 + 1 * (j 0).val) (lo s + 1 * (j 1).val) (0 + 1 * (j 2).val)
    rw [one_mul, one_mul, one_mul, zero_add, zero_add]
  · have hn : has s c := not_not.mp fun hh => h (hP.mpr hh)
    rw [dif_neg h]
    unfold haloA
    rw [if_pos hn]
    iintro Hf Hk
    iapply Hk
    iexists f; iexact Hf

/-! ## Signals -/

/-- Device `c` signals the neighbour on side `s`, if it exists, and hands it the halo rows on that side. -/
theorem signal (s : Bool) (c : Dev nD) {P : Prop} [Decidable P] (hP : P ↔ has s c) (n : P → Dev nD) (hn : ∀ h, n h = nb s c)
    (O : CellTallies nD τ sig Unit) (W : Waits sig Unit)
    {α : Type} {Q : α → sProp 𝕄} {k : Prog (TpuEff nD τ sig (Elt F) Λ₀ .tc) α} :
    iprop(shared m ρ K s c ∗ owes (c : Thread nD τ) (O + owB s c) W ∗ dutyTok EX (barCell (nb s c)) 0 (!s) ∗ haloA m ρ s c)
      ⊢ iprop(((owes (c : Thread nD τ) O W ∗ haloB m ρ s c) -∗ wp frame (wpE (defs₀ (F := F)) 𝒱₀ (c : Thread nD τ) none) Set.univ k Q)
          -∗ wp frame (wpE (defs₀ (F := F)) 𝒱₀ (c : Thread nD τ) none) Set.univ
            (if h : P then .op (.semSignal (n h : Thread nD τ) barS (1#32 : BitVec 32).toInt) fun _ => k else k) Q) := by
  by_cases h : P
  · have hs := hP.mp h
    rw [dif_pos h, hn h]
    unfold haloA haloB shared owB one
    rw [if_pos hs, if_pos hs, if_pos hs]
    iintro ⟨⟨-, -, #HI, -, -, #Hr, #HrB, -⟩, HO, Ht, Hh⟩ Hk
    iapply (Rounds.wp_signal 𝒱₀ EX (sched m ρ) (c : Thread nD τ) none (dst := (nb s c : Thread nD τ)) (κ := K (nb s c, 0)) (r := 0)
        (d := !s) (by rw [duties_bar]; exact Finset.mem_filter.mpr ⟨Finset.mem_univ _, (has_nb s c).mpr hs⟩)
        (amount_bar m ρ (nb s c) (!s)) () O rfl) $$ [HO Ht Hh]
    · isplitr; · iexact HI
      isplitl [HO]; · iexact HO
      isplitl [Ht]; · iexact Ht
      isplitl [Hh]
      · rw [payload_bar]; unfold barPay
        rw [nb_nb, Bool.not_not]
        isplitl [Hh]; · iexact Hh
        iexact Hr
      iexact HrB
    iintro HO
    iapply Hk
    isplitl [HO]; · iexact HO
    iempintro
  · have hs : ¬ has s c := fun hh => h (hP.mpr hh)
    rw [dif_neg h]
    unfold haloA haloB owB one
    rw [if_neg hs, if_neg hs, if_neg hs, tallyAt_zero, add_zero]
    iintro ⟨-, HO, -, Hh⟩ Hk
    iapply Hk
    isplitl [HO]; · iexact HO
    iexact Hh

/-! ## Transfer semaphores -/

/-- A wait on a transfer cell: the resource the transfer hands back is held afterwards, and the cell is done with,
    whether a transfer took place or not. -/
theorem waitTransfer (s : Bool) (c : Dev nD) {P : Prop} [Decidable P] (hP : P ↔ has s c) (κ : ℕ) (sm : DmaSem sig)
    (X : sProp 𝕄) (hd : (sched m ρ).duties ((c : Thread nD τ), .dma sm) 0 = if has s c then {s} else ∅)
    (he : (sched m ρ).expect ((c : Thread nD τ), .dma sm) 0 = amt s c)
    (hX : (sched m ρ).payload ((c : Thread nD τ), .dma sm) 0 s = X)
    (sm' : DmaSem sig) (hsm : sm' = sm)
    {sp sp' : Space} {sh : Shape} {e : EltTy} (a : Memref sig .tc sp sh e) (b : Memref sig .tc sp' sh e)
    (hN : b.view.dmaCredit = N) (ha : P → a.view.WordExact) (hb : P → b.view.WordExact)
    (W : Waits sig Unit)
    {α : Type} {Q : α → sProp 𝕄} {k : Prog (TpuEff nD τ sig (Elt F) Λ₀ .tc) α} :
    iprop(cellInv EX (sched m ρ) κ ((c : Thread nD τ), .dma sm) ∗ cred (tallyAt ((c : Thread nD τ), .dma sm) () (amt s c))
        ∗ owes (c : Thread nD τ) 0 W ∗ atPos EX ((c : Thread nD τ), .dma sm) 0 ∅ 0 ∗ (if has s c then iprop(emp) else X))
      ⊢ iprop(((∃ W', owes (c : Thread nD τ) 0 W' ∗ X ∗ semVal ((c : Thread nD τ), .dma sm) 0)
            -∗ wp frame (wpE (defs₀ (F := F)) 𝒱₀ (c : Thread nD τ) none) Set.univ k Q)
          -∗ wp frame (wpE (defs₀ (F := F)) 𝒱₀ (c : Thread nD τ) none) Set.univ
            (if h : P then .op (.waitDma2 sm' a b (ha h) (hb h)) fun _ => k else k) Q) := by
  subst hsm
  by_cases h : P
  · have hs := hP.mp h
    have ham : amt s c = N := if_pos hs
    rw [dif_pos h, if_pos hs, ham]
    rw [ham, ← hN] at he
    rw [← hN]
    have hrest : (bigSep ((sched m ρ).duties ((c : Thread nD τ), .dma sm') 0 \ ∅) fun d => (sched m ρ).payload ((c : Thread nD τ), .dma sm') 0 d) = X := by
      rw [hd, if_pos hs, Finset.sdiff_empty, bigSep_singleton, hX]
    iintro ⟨#HI, Hc, HO, Hat, -⟩ Hk
    iapply (Rounds.wp_wait_rest_token 𝒱₀ EX (sched m ρ) (c : Thread nD τ) none (κ := κ)
        (wpE_waitDma2_eq 𝒱₀ (c : Thread nD τ) none Set.univ) (Set.mem_univ _) () (O := 0) (W := W) (R := 0) (m := 0) (T := ∅)
        (by rw [Nat.zero_add, he])) $$ [Hc HO Hat]
    · isplitr; · iexact HI
      isplitl [Hc]; · iexact Hc
      isplitl [HO]; · iexact HO
      isplitr; · rw [MayWait_zero]; iempintro
      iexact Hat
    iintro ⟨HO, Hat, -, Hp⟩
    ihave HX := (Entails.of_eq hrest) $$ Hp
    imod (Rounds.cell_close EX (sched m ρ) (Set.mem_univ κ) (fun h => h) (R := 0 + 1) (duties_later m ρ _)) $$ [Hat] with Hz
    · isplitr; · iexact HI
      iexact Hat
    iapply Hk
    iexists _
    isplitl [HO]; · iexact HO
    isplitl [HX] <;> iassumption
  · have hs : ¬ has s c := fun hh => h (hP.mpr hh)
    rw [dif_neg h, if_neg hs]
    iintro ⟨#HI, -, HO, Hat, HX⟩ Hk
    imod (Rounds.cell_close EX (sched m ρ) (Set.mem_univ κ) (fun h => h) (R := 0) (fun r _ => by
      rcases Nat.eq_zero_or_pos r with rfl | hr
      · rw [hd, if_neg hs]
      · exact duties_later m ρ _ r hr)) $$ [Hat] with Hz
    · isplitr; · iexact HI
      iexact Hat
    iapply Hk
    iexists _
    isplitl [HO]; · iexact HO
    isplitl [HX] <;> iassumption

/-- Device `c` sends 128 of its rows to the neighbour on side `s`, if it exists: half of its hold on them goes with the
    transfer, and it no longer owes their arrival. -/
theorem send (s : Bool) (c : Dev nD) {P : Prop} [Decidable P] (hP : P ↔ has s c) (n : P → Dev nD) (hn : ∀ h, n h = nb s c)
    (l l' : ℕ) (hl : l = src s) (hl' : l' = lo (!s)) (inb inb' hst hst')
    (sS sR : DmaSem sig) (hS : sS = sendS s) (hR : sR = recvS (!s))
    (hsc : ∀ h, ((kvM.slice (rowRect l' inb') hst' : Memref sig (Dev.tc (n h) : Thread nD τ).2.kind .vmem S2x128x512 .bf16)).view.ref.isScScratch = false)
    (hsrc : P → (kvM.slice (rowRect l inb) hst).view.WordExact) (hdst : P → (kvM.slice (rowRect l' inb') hst').view.WordExact)
    (hsem : ∀ h, DmaTarget.Typed .vmem (.dma sR) (.remote (Dev.tc (n h) : Thread nD τ)
      (kvM.slice (rowRect l' inb') hst' : Memref sig (Dev.tc (n h) : Thread nD τ).2.kind .vmem S2x128x512 .bf16) (.dma sS) (hsc h)))
    (O : CellTallies nD τ sig Unit) (W : Waits sig Unit)
    {α : Type} {Q : α → sProp 𝕄} {k : Prog (TpuEff nD τ sig (Elt F) Λ₀ .tc) α} :
    iprop(shared m ρ K s c ∗ sendPay m ρ s c ∗ gotten s c ∗ owes (c : Thread nD τ) (O + owR s c) W
        ∗ dutyTok EX (sendCell s c) 0 s ∗ dutyTok EX (recvCell (!s) (nb s c)) 0 (!s))
      ⊢ iprop(((cred (tallyAt (sendCell s c) () (amt s c)) ∗ lent m ρ s c ∗ owes (c : Thread nD τ) O W)
            -∗ wp frame (wpE (defs₀ (F := F)) 𝒱₀ (c : Thread nD τ) none) Set.univ k Q)
          -∗ wp frame (wpE (defs₀ (F := F)) 𝒱₀ (c : Thread nD τ) none) Set.univ
            (if h : P then .op (.enqueueDma (kvM.slice (rowRect l inb) hst)
                (.remote (Dev.tc (n h) : Thread nD τ) (kvM.slice (rowRect l' inb') hst') (.dma sS) (hsc h)) (.dma sR) (hsrc h) (hdst h) (hsem h))
              fun _ => k else k) Q) := by
  subst hl hl' hS hR
  by_cases h : P
  · have hs := hP.mp h
    have ham : amt s c = N := if_pos hs
    have hs' : has (!s) (nb s c) := (has_nb s c).mpr hs
    rw [dif_pos h]
    generalize hsc h = hsc', hsem h = hsem', hsrc h = hsrc', hdst h = hdst'
    have hnh := hn h
    generalize n h = d at hnh hsc' hsem' ⊢
    subst hnh
    unfold gotten lent shared owR
    rw [if_pos hs, if_pos hs, ham]
    unfold barPay
    iintro ⟨⟨#HI1, -, -, #HI2, #HrS, -, -, #HrR⟩, Hsrc, ⟨⟨%fd, Hdst⟩, -⟩, HO, Ht1, Ht2⟩ Hk
    unfold sendPay kvPts
    rw [← slice_set (src s) inb hst, ← slice_set (lo (!s)) inb' hst']
    iapply (Rounds.wp_send_pointsTo 𝒱₀ EX (sched m ρ) (c : Thread nD τ) none (κ₁ := K (c, iS s)) (κ₂ := K (nb s c, iR (!s)))
      (c' := Dev.tc (nb s c)) (s := S2x128x512) (e := .bf16) (sp := .vmem) (sp' := .vmem)
      (src := kvM.slice (rowRect (src s) inb) hst) (dst := kvM.slice (rowRect (lo (!s)) inb') hst')
      (sem := .dma (recvS (!s))) (sS := .dma (sendS s)) (r₁ := 0) (r₂ := 0) (d₁ := s) (d₂ := !s) (fd := fd) (fs := kvFull m ρ c) (q := fullShare.right)
      (by rw [duties_send, if_pos hs]; exact Finset.mem_singleton_self _)
      (by rw [duties_recv, if_pos hs']; exact Finset.mem_singleton_self _)
      () () N (credit_eq _ inb' hst') (amount_send m ρ s c s) (amount_recv m ρ (!s) (nb s c) (!s)) O rfl (W := W)
      (by rw [payload_send]; unfold sendPay kvPts; rw [← slice_set (src s) inb hst])
      (by
        rw [payload_recv]; unfold recvPay kvPts; rw [← slice_set (lo (!s)) inb' hst']
        refine Entails.of_eq (pointsTo_congr ?_)
        intro i hi
        exact landed_eq m ρ s c hs inb inb' hst hst' fd i (by rw [← slice_set _ inb' hst']; exact hi))) $$ [Hsrc Hdst HO Ht1 Ht2]
    · isplitr; · iexact HI1
      isplitr; · iexact HI2
      isplitl [Hsrc]; · iexact Hsrc
      isplitl [Hdst]; · iexact Hdst
      isplitl [HO]; · iexact HO
      isplitl [Ht1]; · iexact Ht1
      isplitr; · iexact HrS
      isplitl [Ht2]; · iexact Ht2
      iexact HrR
    iintro ⟨Hc, HO⟩
    iapply Hk
    isplitl [Hc]; · iexact Hc
    isplitr; · iempintro
    iexact HO
  · have hs : ¬ has s c := fun hh => h (hP.mpr hh)
    have ham : amt s c = 0 := if_neg hs
    rw [dif_neg h]
    unfold lent owR
    rw [if_neg hs, ham, tallyAt_zero, tallyAt_zero, add_zero, cred_zero]
    iintro ⟨-, Hsrc, -, HO, -, -⟩ Hk
    iapply Hk
    isplitr; · iempintro
    isplitl [Hsrc]; · iexact Hsrc
    iexact HO

/-! ## The barrier -/

/-- The barrier cell between its two waits. With a neighbour on the right it is still in its round, having been paid the
    left one's unit if there is a left one; otherwise its round is over. -/
def midBar (c : Dev nD) : sProp 𝕄 :=
  if has false c then
    iprop(∃ S, ⌜S ⊆ (sched (F := F) m ρ).duties (barCell c) 0⌝ ∗ atPos EX (barCell c) 0 S (one true c)
      ∗ bigSep S fun d => (sched m ρ).payload (barCell c) 0 d)
  else iprop(atPos EX (barCell c) (0 + 1) ∅ 0 ∗ bigSep ((sched m ρ).duties (barCell c) 0) fun d => (sched m ρ).payload (barCell c) 0 d)

/-- The first barrier wait, for the neighbour on the left. -/
theorem waitBar1 (c : Dev nD) {P : Prop} [Decidable P] (hP : P ↔ has true c) (κ : ℕ) (W : Waits sig Unit)
    {α : Type} {Q : α → sProp 𝕄} {k : Prog (TpuEff nD τ sig (Elt F) Λ₀ .tc) α} :
    iprop(cellInv EX (sched m ρ) κ (barCell c) ∗ cred (tallyAt (barCell c) () (one true c))
        ∗ owes (c : Thread nD τ) (owR false c + owR true c) W ∗ levAts L lv ∗ atPos EX (barCell c) 0 ∅ 0)
      ⊢ iprop(((∃ W', owes (c : Thread nD τ) (owR false c + owR true c) W' ∗ midBar m ρ c)
            -∗ wp frame (wpE (defs₀ (F := F)) 𝒱₀ (c : Thread nD τ) none) Set.univ k Q)
          -∗ wp frame (wpE (defs₀ (F := F)) 𝒱₀ (c : Thread nD τ) none) Set.univ
            (if h : P then .op (.semWait barS (1#32 : BitVec 32).toInt) fun _ => k else k) Q) := by
  have one1 : ∀ s, has s c → one s c = 1 := fun s h => if_pos h
  have one0 : ∀ s, ¬ has s c → one s c = 0 := fun s h => if_neg h
  by_cases h : P
  · have hs := hP.mp h
    rw [dif_pos h]
    by_cases hr : has false c
    · unfold midBar
      rw [if_pos hr, one1 _ hs]
      iintro ⟨#HI, Hc, HO, #Hl, Hat⟩ Hk
      iapply (Rounds.wp_wait 𝒱₀ EX (sched m ρ) (c : Thread nD τ) none (κ := κ) (sm := .reg barS) (k' := 1)
        (wpE_semWait_eq 𝒱₀ (c : Thread nD τ) none Set.univ) (Set.mem_univ _) (cr := Finsupp.single () 1)
        (O := owR false c + owR true c) (W := W) {(.reg barS, ())} (R := 0) (m := 0) (T := ∅)
        (by rw [Util.total_single]) (image_single_subset _ () 1)) $$ [Hc HO Hat]
      · isplitr; · iexact HI
        isplitl [Hc]; · iexact Hc
        isplitl [HO]; · iexact HO
        isplitr; · iapply (mayWait_bar c); iexact Hl
        iexact Hat
      iintro %S ⟨%hS, HO, Hat, Hp⟩
      iapply Hk
      iexists _
      isplitl [HO]; · iexact HO
      iexists S
      isplitr; · ipureintro; exact hS.2.1
      isplitl [Hat]; · iexact Hat
      rw [Finset.sdiff_empty]; iexact Hp
    · unfold midBar
      rw [if_neg hr, one1 _ hs]
      iintro ⟨#HI, Hc, HO, #Hl, Hat⟩ Hk
      iapply (Rounds.wp_wait_rest_token 𝒱₀ EX (sched m ρ) (c : Thread nD τ) none (κ := κ)
        (wpE_semWait_eq 𝒱₀ (c : Thread nD τ) none Set.univ) (Set.mem_univ _) () (k' := 1)
        (O := owR false c + owR true c) (W := W) (R := 0) (m := 0) (T := ∅)
        (by rw [expect_bar, one1 _ hs, one0 _ hr])) $$ [Hc HO Hat]
      · isplitr; · iexact HI
        isplitl [Hc]; · iexact Hc
        isplitl [HO]; · iexact HO
        isplitr; · iapply (mayWait_bar c); iexact Hl
        iexact Hat
      iintro ⟨HO, Hat, -, Hp⟩
      iapply Hk
      iexists _
      isplitl [HO]; · iexact HO
      isplitl [Hat]; · iexact Hat
      rw [Finset.sdiff_empty]; iexact Hp
  · have hs : ¬ has true c := fun hh => h (hP.mpr hh)
    have hr : has false c := has_other true c hs
    rw [dif_neg h]
    unfold midBar
    rw [if_pos hr, one0 _ hs]
    iintro ⟨#HI, Hc, HO, #Hl, Hat⟩ Hk
    iapply Hk
    iexists _
    isplitl [HO]; · iexact HO
    iexists ∅
    isplitr; · ipureintro; exact Finset.empty_subset _
    isplitl [Hat]; · iexact Hat
    rw [bigSep_empty]; iempintro

/-- All the barrier cell's payloads, side by side. -/
theorem bar_payloads (c : Dev nD) :
    (bigSep ((sched (F := F) m ρ).duties (barCell c) 0) fun d => (sched m ρ).payload (barCell c) 0 d)
      ⊢ iprop(gotten true c ∗ gotten false c) := by
  have hp : ∀ d, (sched (F := F) m ρ).payload (barCell c) 0 d = barPay d c := fun d => payload_bar m ρ d c
  simp only [hp]
  rw [duties_bar, Fintype.univ_bool, Finset.filter_insert, Finset.filter_singleton]
  unfold gotten
  by_cases h1 : has true c <;> by_cases h2 : has false c
  · rw [if_pos h1, if_pos h2, if_pos h1, if_pos h2, bigSep_insert (by decide), bigSep_singleton]; exact BI.Entails.refl _
  · rw [if_pos h1, if_neg h2, if_pos h1, if_neg h2, bigSep_insert (by decide), bigSep_empty]; exact BI.Entails.refl _
  · rw [if_neg h1, if_pos h2, if_neg h1, if_pos h2, bigSep_singleton]
    iintro H
    isplitr; · iempintro
    iexact H
  · exact absurd (has_other true c h1) h2

/-- The second barrier wait, for the neighbour on the right: afterwards everything the neighbours handed over is held and
    the barrier cell is done with. -/
theorem waitBar2 (c : Dev nD) {P : Prop} [Decidable P] (hP : P ↔ has false c) (κ : ℕ) (W : Waits sig Unit)
    {α : Type} {Q : α → sProp 𝕄} {k : Prog (TpuEff nD τ sig (Elt F) Λ₀ .tc) α} :
    iprop(cellInv EX (sched m ρ) κ (barCell c) ∗ cred (tallyAt (barCell c) () (one false c))
        ∗ owes (c : Thread nD τ) (owR false c + owR true c) W ∗ levAts L lv ∗ midBar m ρ c)
      ⊢ iprop(((∃ W', owes (c : Thread nD τ) (owR false c + owR true c) W' ∗ semVal (barCell c) 0 ∗ gotten true c ∗ gotten false c)
            -∗ wp frame (wpE (defs₀ (F := F)) 𝒱₀ (c : Thread nD τ) none) Set.univ k Q)
          -∗ wp frame (wpE (defs₀ (F := F)) 𝒱₀ (c : Thread nD τ) none) Set.univ
            (if h : P then .op (.semWait barS (1#32 : BitVec 32).toInt) fun _ => k else k) Q) := by
  have one1 : ∀ s, has s c → one s c = 1 := fun s h => if_pos h
  by_cases h : P
  · have hs := hP.mp h
    rw [dif_pos h]
    unfold midBar
    rw [if_pos hs, one1 _ hs]
    iintro ⟨#HI, Hc, HO, #Hl, %S, %hS, Hat, Hp⟩ Hk
    iapply (Rounds.wp_wait_rest_token 𝒱₀ EX (sched m ρ) (c : Thread nD τ) none (κ := κ)
      (wpE_semWait_eq 𝒱₀ (c : Thread nD τ) none Set.univ) (Set.mem_univ _) () (k' := 1)
      (O := owR false c + owR true c) (W := W) (R := 0) (m := one true c) (T := S)
      (by rw [expect_bar, one1 _ hs])) $$ [Hc HO Hat]
    · isplitr; · iexact HI
      isplitl [Hc]; · iexact Hc
      isplitl [HO]; · iexact HO
      isplitr; · iapply (mayWait_bar c); iexact Hl
      iexact Hat
    iintro ⟨HO, Hat, -, Hp'⟩
    imod (Rounds.cell_close EX (sched m ρ) (Set.mem_univ κ) (fun h => h) (R := 0 + 1) (duties_later m ρ _)) $$ [Hat] with Hz
    · isplitr; · iexact HI
      iexact Hat
    iapply Hk
    iexists _
    isplitl [HO]; · iexact HO
    isplitl [Hz]; · iexact Hz
    iapply (bar_payloads m ρ c)
    iapply (bigSep_rejoin hS _)
    isplitl [Hp] <;> iassumption
  · have hs : ¬ has false c := fun hh => h (hP.mpr hh)
    rw [dif_neg h]
    unfold midBar
    rw [if_neg hs]
    iintro ⟨#HI, -, HO, #Hl, Hat, Hp⟩ Hk
    imod (Rounds.cell_close EX (sched m ρ) (Set.mem_univ κ) (fun h => h) (R := 0 + 1) (duties_later m ρ _)) $$ [Hat] with Hz
    · isplitr; · iexact HI
      iexact Hat
    iapply Hk
    iexists _
    isplitl [HO]; · iexact HO
    isplitl [Hz]; · iexact Hz
    iapply (bar_payloads m ρ c); iexact Hp

end Cert.K
-- ==== Proof.Body.lean ====
/-
# The body of the kernel, run once for every device

From the staged blocks and an arbitrary key/value buffer the body reaches: the buffer filled as the exchange says, the
output block holding the four computed blocks, all semaphores of the exchange at zero and nothing owed.
-/
module

public import proofs.«01_k».proof.Proof.Steps

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 5 → ℕ)

/-! ## The device's position as the program computes it -/

/-- The device's number, as the program reduces it. -/
def pos (c : Dev nD) : BitVec 32 := Scalar.remsi (Scalar.divsi (Dev.word c) 1#32) 16#32
/-- Whether there is a left neighbour, as a bit. -/
def bitL (c : Dev nD) : BitVec 1 := Scalar.cmpi .sgt (pos c) 0#32
/-- Whether there is a right neighbour, as a bit. -/
def bitR (c : Dev nD) : BitVec 1 := Scalar.cmpi .slt (pos c) 15#32

theorem notL (c : Dev nD) : Scalar.cmpi .ne (Scalar.extui (Scalar.xori (bitL c) 1#1) : BitVec 32) 0#32 = 1#1 ↔ ¬ has true c := by
  revert c; decide
theorem notR (c : Dev nD) : Scalar.cmpi .ne (Scalar.extui (Scalar.xori (bitR c) 1#1) : BitVec 32) 0#32 = 1#1 ↔ ¬ has false c := by
  revert c; decide
theorem isL (c : Dev nD) : Scalar.cmpi .ne (Scalar.extui (bitL c) : BitVec 32) 0#32 = 1#1 ↔ has true c := by revert c; decide
theorem isR (c : Dev nD) : Scalar.cmpi .ne (Scalar.extui (bitR c) : BitVec 32) 0#32 = 1#1 ↔ has false c := by revert c; decide
theorem cond3 (c : Dev nD) : k0_cond3 c = 1#1 ↔ has true c := by revert c; decide
theorem cond4 (c : Dev nD) : k0_cond4 c = 1#1 ↔ has false c := by revert c; decide
theorem cond7 (c : Dev nD) : k0_cond7 c = 1#1 ↔ has true c := by revert c; decide
theorem cond8 (c : Dev nD) : k0_cond8 c = 1#1 ↔ has false c := by revert c; decide
theorem dev1 (c : Dev nD) (h : k0_cond3 c = 1#1) : (⟨k0_dev1 c, k0_dev1_lt c h⟩ : Dev nD) = nb true c := by revert c; decide
theorem dev2 (c : Dev nD) (h : k0_cond4 c = 1#1) : (⟨k0_dev2 c, k0_dev2_lt c h⟩ : Dev nD) = nb false c := by revert c; decide
theorem dev3 (c : Dev nD) (h : k0_cond7 c = 1#1) : (⟨k0_dev3 c, k0_dev3_lt c h⟩ : Dev nD) = nb true c := by revert c; decide
theorem dev4 (c : Dev nD) (h : k0_cond8 c = 1#1) : (⟨k0_dev4 c, k0_dev4_lt c h⟩ : Dev nD) = nb false c := by revert c; decide

/-! ## Splitting and joining rows and shares -/

omit [FloatOps F] [Named F] in
theorem kv_join {c : Dev nD} {a b d : ℕ} (h₁ : a ≤ b) (h₂ : b ≤ d) {q : PosShare TreeShare} {f : Buf (Elt F) (kvLoc c)} :
    iprop(kvPts c a b q f ∗ kvPts c b d q f) = (kvPts c a d q f : sProp 𝕄) := by
  unfold kvPts; rw [← rows_union h₁ h₂]
  have h : (kvLoc c ↦[rows a b ∪ rows b d]{q} f : sProp 𝕄) ⊣⊢ iprop((kvLoc c ↦[rows a b]{q} f) ∗ kvLoc c ↦[rows b d]{q} f) :=
    pointsTo_union (rows_disjoint (le_refl b))
  exact (equiv_iff.mp ⟨h.1, h.2⟩).symm

omit [FloatOps F] [Named F] in
theorem kv_halves {c : Dev nD} {a b : ℕ} {f : Buf (Elt F) (kvLoc c)} :
    (kvPts c a b fullShare f : sProp 𝕄) = iprop(kvPts c a b fullShare.left f ∗ kvPts c a b fullShare.right f) := by
  unfold kvPts
  have h : (kvLoc c ↦[rows a b]{fullShare} f : sProp 𝕄) ⊣⊢ iprop((kvLoc c ↦[rows a b]{fullShare.left} f) ∗ kvLoc c ↦[rows a b]{fullShare.right} f) :=
    pointsTo_share (PosShare.mem_left_op_right fullShare)
  exact equiv_iff.mp ⟨h.1, h.2⟩

omit [FloatOps F] [Named F] in
theorem kv_whole {c : Dev nD} {f : Buf (Elt F) (kvLoc c)} :
    (kvPts c 0 512 fullShare f : sProp 𝕄) = (kvLoc c ↦{fullShare} f) := by
  unfold kvPts; rw [rows_all]

abbrev stg (c : Dev nD) (b : Ref sig .tc) (X : b.ty.Contents (Elt F)) : sProp 𝕄 :=
  iprop(((c : Thread nD τ).loc b) ↦{fullShare} (X : Buf (Elt F) ((c : Thread nD τ).loc b)))

/-! ## The first stretch: own rows stored, empty halos filled, neighbours signalled -/

theorem hz4 : (![0, 0, 0, 0] : Fin 4 → Nat) = fun _ => 0 := funext fun a => by fin_cases a <;> rfl
theorem hz2 : (![0, 0] : Fin 2 → Nat) = fun _ => 0 := funext fun a => by fin_cases a <;> rfl

abbrev rK : Rect S2x512x512 := Rect.unit (s := S2x512x512) ![0, 128, 0] S2x256x256.size inb_S2x512x512_S2x256x256_0_128_0
abbrev rV : Rect S2x512x512 := Rect.unit (s := S2x512x512) ![0, 128, 256] S2x256x256.size inb_S2x512x512_S2x256x256_0_128_256

theorem rK_sub : rK.set ⊆ rows 128 384 := fun i hi => by
  rw [Rect.mem_set_unit] at hi; rw [mem_rows]; exact hi 1
theorem rV_sub : rV.set ⊆ rows 128 384 := fun i hi => by
  rw [Rect.mem_set_unit] at hi; rw [mem_rows]; exact hi 1

/-- After the keys and the values are stored, the device's own rows hold what they hold at the end. -/
theorem own_stored (c : Dev nD) (f : Buf (Elt F) (kvLoc c)) : ∀ i ∈ rows 128 384,
    (kvM.access rV).write (Elt F) ((kvM.access rK).write (Elt F) f (k0_pay3 (kStg m ρ c)) Finset.univ) (k0_pay4 (vStg m ρ c)) Finset.univ i
      = kvFull m ρ c i := by
  intro i hi
  rw [mem_rows] at hi
  have h0 : (i 0).val < 2 := (i 0).isLt
  have h2 : (i 2).val < 512 := (i 2).isLt
  have hf : kvFull m ρ c i = own m ρ c (i 0).val ((i 1).val - 128) (i 2).val := by
    show kvAt m ρ c _ _ _ = _
    unfold kvAt; rw [if_neg (by omega), if_pos hi.2]
  rw [hf]
  unfold own
  by_cases hj : (i 2).val < 256
  · rw [if_pos hj]
    have hV : i ∉ rV.set := fun h => by
      have h' := (Rect.mem_set_unit.mp h 2).1
      have : (256 : ℕ) ≤ (i 2).val := h'
      omega
    have hK : i ∈ rK.set := Rect.mem_set_unit.mpr fun a => by
      match a with
      | ⟨0, _⟩ => exact ⟨Nat.zero_le _, by show (i 0).val < 0 + 2; omega⟩
      | ⟨1, _⟩ => exact ⟨hi.1, by show (i 1).val < 128 + 256; omega⟩
      | ⟨2, _⟩ => exact ⟨Nat.zero_le _, by show (i 2).val < 0 + 256; omega⟩
    refine (kv_write_out rV _ _ i hV).trans ?_
    obtain ⟨k, rfl⟩ := exists_emb hK
    refine (kv_write_emb rK f _ k).trans (at3_eq _ k ?_ ?_ ?_).symm
    · show (k 0).val = 0 + 1 * (k 0).val; omega
    · show (k 1).val = 128 + 1 * (k 1).val - 128; omega
    · show (k 2).val = 0 + 1 * (k 2).val; omega
  · rw [if_neg hj]
    have hV : i ∈ rV.set := Rect.mem_set_unit.mpr fun a => by
      match a with
      | ⟨0, _⟩ => exact ⟨Nat.zero_le _, by show (i 0).val < 0 + 2; omega⟩
      | ⟨1, _⟩ => exact ⟨hi.1, by show (i 1).val < 128 + 256; omega⟩
      | ⟨2, _⟩ => exact ⟨by show 256 ≤ (i 2).val; omega, by show (i 2).val < 256 + 256; omega⟩
    obtain ⟨k, rfl⟩ := exists_emb hV
    refine (kv_write_emb rV _ _ k).trans (at3_eq _ k ?_ ?_ ?_).symm
    · show (k 0).val = 0 + 1 * (k 0).val; omega
    · show (k 1).val = 128 + 1 * (k 1).val - 128; omega
    · show (k 2).val = 256 + 1 * (k 2).val - 256; omega

/-- The zeros stored in a halo with no neighbour are what the halo holds at the end. -/
theorem zerosL (c : Dev nD) (h : ¬ has true c) (k : S2x128x512.Idx) :
    (k0_pay5 (F := F)) k = kvAt m ρ c (k 0).val (lo true + (k 1).val) (k 2).val := by
  have hk : (k 1).val < 128 := (k 1).isLt
  show _ = kvAt m ρ c (k 0).val (0 + (k 1).val) (k 2).val
  unfold kvAt
  rw [Nat.zero_add, if_pos hk, if_neg h]
  exact (at3_eq _ k rfl rfl rfl).symm
theorem zerosR (c : Dev nD) (h : ¬ has false c) (k : S2x128x512.Idx) :
    (k0_pay6 (F := F)) k = kvAt m ρ c (k 0).val (lo false + (k 1).val) (k 2).val := by
  have hk : (k 1).val < 128 := (k 1).isLt
  show _ = kvAt m ρ c (k 0).val (384 + (k 1).val) (k 2).val
  unfold kvAt
  rw [if_neg (by omega), if_neg (by omega), if_neg h]
  exact (at3_eq _ k rfl (by omega) rfl).symm

set_option maxHeartbeats 1000000 in
/-- The first stretch of the body. -/
theorem part1 (c : Dev nD) (f : Buf (Elt F) (kvLoc c)) (O : CellTallies nD τ sig Unit) (W : Waits sig Unit)
    (Q : (Σ' (d0 : Dev nD) (v2 : BitVec 32) (v3 : BitVec 1) (v4 : BitVec 1) (v23 : Sems sig S_), BitVec 32) → sProp 𝕄) :
    iprop(shared m ρ K true c ∗ shared m ρ K false c ∗ stg c cc0_stg2_0 (kStg m ρ c) ∗ stg c cc0_stg3_0 (vStg m ρ c)
        ∗ kvPts c 0 512 fullShare f ∗ owes (c : Thread nD τ) (O + owB false c + owB true c) W
        ∗ dutyTok EX (barCell (nb true c)) 0 (!true) ∗ dutyTok EX (barCell (nb false c)) 0 (!false))
      ⊢ iprop(((stg c cc0_stg2_0 (kStg m ρ c) ∗ stg c cc0_stg3_0 (vStg m ρ c)
          ∗ kvPts c 128 384 fullShare (kvFull m ρ c) ∗ haloB m ρ true c ∗ haloB m ρ false c
          ∗ owes (c : Thread nD τ) O W) -∗ Q ⟨c, pos c, bitL c, bitR c, SemArray.scalar (sig.barrier 0 rfl), Scalar.extui (bitL c)⟩)
        -∗ wp frame (wpE (defs₀ (F := F)) 𝒱₀ (c : Thread nD τ) none) Set.univ
          (k0_part1 xM (Memref.isWhole_whole _) wqM (Memref.isWhole_whole _) kM (Memref.isWhole_whole _) vM (Memref.isWhole_whole _)
            woM (Memref.isWhole_whole _) oM (Memref.isWhole_whole _) kvM (Memref.isWhole_whole _) cc0_scratch1 cc0_scratch2) Q) := by
  rw [k0_part1_eq_skeleton]; unfold k0_part1_skel
  simp only [semSignalWord, Prog.lift, Prog.bind_op, Prog.bind_ret, Prog.pure_eq_ret, wp_deviceId]
  iintro ⟨#HsL, #HsR, HK, HV, Hkv, HO, HtL, HtR⟩ Hk
  ihave Hs := (Entails.of_eq ((kv_join (b := 128) (by decide) (by decide)).symm)) $$ Hkv
  icases Hs with ⟨HhL, Hs⟩
  ihave Hs := (Entails.of_eq ((kv_join (b := 384) (by decide) (by decide)).symm)) $$ Hs
  icases Hs with ⟨Hm, HhR⟩
  iapply (wp_load 𝒱₀ (c : Thread nD τ) none Set.univ (m := kM) (Finset.subset_univ _)) $$ HK; iintro HK
  rw [show kM.view.readAt (Elt F) (Rect.unit (s := S2x256x4x64) ![0, 0, 0, 0] S2x256x4x64.size inb_S2x256x4x64_S2x256x4x64_0_0_0_0).toLoadRect (kStg m ρ c)
    = kStg m ρ c from Memref.readAt_unit_zero (Elt F) cc0_stg2_0 hz4 _ _]
  iapply (wp_load 𝒱₀ (c : Thread nD τ) none Set.univ (m := vM) (Finset.subset_univ _)) $$ HV; iintro HV
  rw [show vM.view.readAt (Elt F) (Rect.unit (s := S2x256x4x64) ![0, 0, 0, 0] S2x256x4x64.size inb_S2x256x4x64_S2x256x4x64_0_0_0_0).toLoadRect (vStg m ρ c)
    = vStg m ρ c from Memref.readAt_unit_zero (Elt F) cc0_stg3_0 hz4 _ _]
  unfold kvPts
  iapply (wp_load 𝒱₀ (c : Thread nD τ) none Set.univ (m := kvM) (S := rows 128 384)
    (by rw [kv_setOn]; exact rK_sub)) $$ Hm
  iintro Hm
  iapply (wp_store 𝒱₀ (c : Thread nD τ) none Set.univ (m := kvM) (S := rows 128 384) (r := rK)
    (by rw [View.setOn_univ, kv_access_set]; exact rK_sub)) $$ Hm
  iintro Hm
  iapply (wp_load 𝒱₀ (c : Thread nD τ) none Set.univ (m := kvM) (S := rows 128 384)
    (by rw [kv_setOn]; exact rV_sub)) $$ Hm
  iintro Hm
  iapply (wp_store 𝒱₀ (c : Thread nD τ) none Set.univ (m := kvM) (S := rows 128 384) (r := rV)
    (by rw [View.setOn_univ, kv_access_set]; exact rV_sub)) $$ Hm
  iintro Hm
  ihave Hm := (Entails.of_eq (pointsTo_congr (own_stored m ρ c f))) $$ Hm
  iapply (fill m ρ true c (notL c) 0 rfl _ _ (zerosL m ρ c) _ _ _ f) $$ [HhL]
  · unfold kvPts; iexact HhL
  iintro HhL
  iapply (fill m ρ false c (notR c) 384 rfl _ _ (zerosR m ρ c) _ _ _ f) $$ [HhR]
  · unfold kvPts; iexact HhR
  iintro HhR
  iapply (signal m ρ K true c (cond3 c) _ (dev1 c) (O + owB false c) W) $$ [HO HtL HhL]
  · isplitr; · iexact HsL
    isplitl [HO]; · iexact HO
    isplitl [HtL]; · iexact HtL
    iexact HhL
  iintro ⟨HO, HhL⟩
  iapply (signal m ρ K false c (cond4 c) _ (dev2 c) O W) $$ [HO HtR HhR]
  · isplitr; · iexact HsR
    isplitl [HO]; · iexact HO
    isplitl [HtR]; · iexact HtR
    iexact HhR
  iintro ⟨HO, HhR⟩
  rw [wp_ret]; imodintro
  unfold bitL bitR pos
  iapply Hk
  isplitl [HK]; · iexact HK
  isplitl [HV]; · iexact HV
  isplitl [Hm]; · iexact Hm
  isplitl [HhL]; · iexact HhL
  isplitl [HhR]; · iexact HhR
  iexact HO

/-! ## The second stretch: barrier, transfers, operands loaded, the left halo awaited -/

/-- The two batch entries of the staged input, and the windows of the buffer the four computed blocks read. -/
def x0 (c : Dev nD) : Vec F S1x256x512 .bf16 :=
  xM.view.readAt (Elt F) (Rect.unit (s := S2x256x512) ![0, 0, 0] S1x256x512.size inb_S2x256x512_S1x256x512_0_0_0).toLoadRect (xStg m ρ c)
def x1 (c : Dev nD) : Vec F S1x256x512 .bf16 :=
  xM.view.readAt (Elt F) (Rect.unit (s := S2x256x512) ![1, 0, 0] S1x256x512.size inb_S2x256x512_S1x256x512_1_0_0).toLoadRect (xStg m ρ c)
abbrev rw00 : Rect S2x512x512 := Rect.unit (s := S2x512x512) ![0, 0, 0] S1x384x512.size inb_S2x512x512_S1x384x512_0_0_0
abbrev rw10 : Rect S2x512x512 := Rect.unit (s := S2x512x512) ![1, 0, 0] S1x384x512.size inb_S2x512x512_S1x384x512_1_0_0
abbrev rw01 : Rect S2x512x512 := Rect.unit (s := S2x512x512) ![0, 128, 0] S1x384x512.size inb_S2x512x512_S1x384x512_0_128_0
abbrev rw11 : Rect S2x512x512 := Rect.unit (s := S2x512x512) ![1, 128, 0] S1x384x512.size inb_S2x512x512_S1x384x512_1_128_0
def w00 (c : Dev nD) : Vec F S1x384x512 .bf16 := kvM.view.readAt (Elt F) rw00.toLoadRect (kvFull m ρ c)
def w10 (c : Dev nD) : Vec F S1x384x512 .bf16 := kvM.view.readAt (Elt F) rw10.toLoadRect (kvFull m ρ c)
def w01 (c : Dev nD) : Vec F S1x384x512 .bf16 := kvM.view.readAt (Elt F) rw01.toLoadRect (kvFull m ρ c)
def w11 (c : Dev nD) : Vec F S1x384x512 .bf16 := kvM.view.readAt (Elt F) rw11.toLoadRect (kvFull m ρ c)

/-- The row numbers and column numbers of a block of scores. -/
abbrev i0 : IVec S128x384 32 := iota .tc S128x384 32 [0] iota_S128x384_d0_w32
abbrev i1 : IVec S128x384 32 := iota .tc S128x384 32 [1] iota_S128x384_d1_w32

set_option maxHeartbeats 1000000 in
/-- The second stretch of the body. -/
theorem part2 (c : Dev nD) (W : Waits sig Unit)
    (Q : (Σ' (v43 : FVec F S256x256 .bf16) (v49 : FVec F S256x256 .bf16) (v51 : FVec F S256x512 .bf16) (v54 : IVec S128x384 32)
      (v55 : IVec S128x384 32) (v60 : IVec S128x384 32), IVec S128x384 1) → sProp 𝕄) :
    iprop((shared m ρ K true c ∗ shared m ρ K false c ∗ cellInv EX (sched m ρ) (K (c, 0)) (barCell c) ∗ levAts L lv)
        ∗ (stg c cc0_stg0_0 (xStg m ρ c) ∗ stg c cc0_stg1_0 (wqStg m ρ c) ∗ stg c cc0_stg4_0 (woStg m ρ c))
        ∗ owes (c : Thread nD τ) (owR false c + owR true c) W
        ∗ (cred (tallyAt (barCell c) () (one true c)) ∗ cred (tallyAt (barCell c) () (one false c)) ∗ atPos EX (barCell c) 0 ∅ 0)
        ∗ (sendPay m ρ true c ∗ dutyTok EX (sendCell true c) 0 true ∗ dutyTok EX (recvCell (!true) (nb true c)) 0 (!true))
        ∗ (sendPay m ρ false c ∗ dutyTok EX (sendCell false c) 0 false ∗ dutyTok EX (recvCell (!false) (nb false c)) 0 (!false))
        ∗ (haloB m ρ true c ∗ cred (tallyAt (recvCell true c) () (amt true c)) ∗ atPos EX (recvCell true c) 0 ∅ 0))
      ⊢ iprop((((stg c cc0_stg0_0 (xStg m ρ c) ∗ stg c cc0_stg1_0 (wqStg m ρ c) ∗ stg c cc0_stg4_0 (woStg m ρ c))
          ∗ (∃ W', owes (c : Thread nD τ) 0 W') ∗ semVal (barCell c) 0
          ∗ (cred (tallyAt (sendCell true c) () (amt true c)) ∗ lent m ρ true c)
          ∗ (cred (tallyAt (sendCell false c) () (amt false c)) ∗ lent m ρ false c)
          ∗ kvPts c 0 128 fullShare (kvFull m ρ c) ∗ semVal (recvCell true c) 0)
            -∗ Q ⟨k0_pay8 (wqStg m ρ c) (x0 m ρ c), k0_pay9 (wqStg m ρ c) (x1 m ρ c), k0_pay10 (woStg m ρ c), i0, i1, k0_pay11 (pos c), k0_pay12⟩)
        -∗ wp frame (wpE (defs₀ (F := F)) 𝒱₀ (c : Thread nD τ) none) Set.univ
          (k0_part2 xM (Memref.isWhole_whole _) wqM (Memref.isWhole_whole _) kM (Memref.isWhole_whole _) vM (Memref.isWhole_whole _)
            woM (Memref.isWhole_whole _) oM (Memref.isWhole_whole _) kvM (Memref.isWhole_whole _) cc0_scratch1 cc0_scratch2
            c (pos c) (bitL c) (bitR c) (SemArray.scalar (sig.barrier 0 rfl)) (Scalar.extui (bitL c))) Q) := by
  rw [k0_part2_eq_skeleton]; unfold k0_part2_skel
  simp only [semWaitWord, Prog.lift, Prog.bind_op, Prog.bind_ret, Prog.pure_eq_ret]
  iintro ⟨⟨#HsL, #HsR, #HIb, #Hlv⟩, ⟨HX, HWq, HWo⟩, HO, ⟨Hc1, Hc2, Hat⟩, ⟨HpL, Ht1L, Ht2L⟩, ⟨HpR, Ht1R, Ht2R⟩, ⟨Hh, HcV, HatV⟩⟩ Hk
  iapply (waitBar1 m ρ c (isL c) (K (c, 0)) W) $$ [HO Hc1 Hat]
  · isplitr; · iexact HIb
    isplitl [Hc1]; · iexact Hc1
    isplitl [HO]; · iexact HO
    isplitr; · iexact Hlv
    iexact Hat
  iintro ⟨%W1, HO, Hmid⟩
  iapply (waitBar2 m ρ c (isR c) (K (c, 0)) W1) $$ [HO Hc2 Hmid]
  · isplitr; · iexact HIb
    isplitl [Hc2]; · iexact Hc2
    isplitl [HO]; · iexact HO
    isplitr; · iexact Hlv
    iexact Hmid
  iintro ⟨%W2, HO, HzB, HgL, HgR⟩
  iapply (send m ρ K true c (cond7 c) _ (dev3 c) 128 384 rfl rfl _ _ _ _ _ _ rfl rfl _ _ _ _ (owR false c) W2) $$ [HO HpL HgL Ht1L Ht2L]
  · isplitr; · iexact HsL
    isplitl [HpL]; · iexact HpL
    isplitl [HgL]; · iexact HgL
    isplitl [HO]; · iexact HO
    isplitl [Ht1L] <;> iassumption
  iintro ⟨HcL, HlL, HO⟩
  rw [← zero_add (owR false c)]
  iapply (send m ρ K false c (cond8 c) _ (dev4 c) 256 0 rfl rfl _ _ _ _ _ _ rfl rfl _ _ _ _ 0 W2) $$ [HO HpR HgR Ht1R Ht2R]
  · isplitr; · iexact HsR
    isplitl [HpR]; · iexact HpR
    isplitl [HgR]; · iexact HgR
    isplitl [HO]; · iexact HO
    isplitl [Ht1R] <;> iassumption
  iintro ⟨HcR, HlR, HO⟩
  iapply (wp_load 𝒱₀ (c : Thread nD τ) none Set.univ (m := wqM) (Finset.subset_univ _)) $$ HWq; iintro HWq
  rw [show wqM.view.readAt (Elt F) (Rect.unit (s := S512x256) ![0, 0] S512x256.size inb_S512x256_S512x256_0_0).toLoadRect (wqStg m ρ c)
    = wqStg m ρ c from Memref.readAt_unit_zero (Elt F) cc0_stg1_0 hz2 _ _]
  iapply (wp_load 𝒱₀ (c : Thread nD τ) none Set.univ (m := xM) (Finset.subset_univ _)) $$ HX; iintro HX
  iapply (wp_load 𝒱₀ (c : Thread nD τ) none Set.univ (m := xM) (Finset.subset_univ _)) $$ HX; iintro HX
  iapply (wp_load 𝒱₀ (c : Thread nD τ) none Set.univ (m := woM) (Finset.subset_univ _)) $$ HWo; iintro HWo
  rw [show woM.view.readAt (Elt F) (Rect.unit (s := S256x512) ![0, 0] S256x512.size inb_S256x512_S256x512_0_0).toLoadRect (woStg m ρ c)
    = woStg m ρ c from Memref.readAt_unit_zero (Elt F) cc0_stg4_0 hz2 _ _]
  iapply (waitTransfer m ρ true c (isL c) (K (c, iR true)) (recvS true) (kvPts c 0 128 fullShare (kvFull m ρ c))
    (duties_recv m ρ true c) (expect_recv m ρ true c) (payload_recv m ρ true c) _ rfl _ _ (credit_eq 0 _ _) _ _ W2) $$ [HO Hh HcV HatV]
  · unfold shared
    icases HsL with ⟨-, #HI, -⟩
    isplitr; · iexact HI
    isplitl [HcV]; · iexact HcV
    isplitl [HO]; · iexact HO
    isplitl [HatV]; · iexact HatV
    unfold haloB; iexact Hh
  iintro ⟨%W3, HO, Hh, HzV⟩
  rw [wp_ret]; imodintro
  unfold x0 x1
  iapply Hk
  isplitl [HX HWq HWo]
  · isplitl [HX]; · iexact HX
    isplitl [HWq] <;> iassumption
  isplitl [HO]; · iexists W3; iexact HO
  isplitl [HzB]; · iexact HzB
  isplitl [HcL HlL]; · isplitl [HcL] <;> iassumption
  isplitl [HcR HlR]; · isplitl [HcR] <;> iassumption
  isplitl [Hh] <;> iassumption

end Cert.K
-- ==== Proof.Compute.lean ====
/-
# The computing stretches of the body, and the body as a whole

What the four stored blocks hold, as functions of the staged operands and the exchanged buffer; the output buffer they make;
and the run of the whole body, from its stretches.
-/
module

public import proofs.«01_k».proof.Proof.Body

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 5 → ℕ)

/-! ## What is stored -/

/-- The projected queries of the two batch entries and the output weights, as the device holds them. -/
def qa (c : Dev nD) : FVec F S256x256 .bf16 := k0_pay8 (wqStg m ρ c) (x0 m ρ c)
def qb (c : Dev nD) : FVec F S256x256 .bf16 := k0_pay9 (wqStg m ρ c) (x1 m ρ c)
def wob (c : Dev nD) : FVec F S256x512 .bf16 := k0_pay10 (woStg m ρ c)
/-- Which scores of the upper and of the lower 128 query rows count. -/
def maskA (c : Dev nD) : IVec S128x384 1 := k0_pay13 i0 i1 (k0_pay11 (pos c)) k0_pay12
def maskB (c : Dev nD) : IVec S128x384 1 := k0_pay25 (pos c)

/-- The four stored blocks: upper rows of both batch entries, then lower rows of both. -/
def blkA (c : Dev nD) : FVec F S1x128x512 .f32 :=
  k0_pay23 (wob m ρ c) (k0_pay18 (qa m ρ c) (maskA c) (k0_pay14 (w00 m ρ c))
    (k0_pay15 (qa m ρ c) i0 i1 (k0_pay11 (pos c)) k0_pay12 (w00 m ρ c)) (k0_pay16 (qa m ρ c) i0 i1 (k0_pay11 (pos c)) k0_pay12 (w00 m ρ c))
    (k0_pay17 (qa m ρ c) i0 i1 (k0_pay11 (pos c)) k0_pay12 (w00 m ρ c)))
def blkB (c : Dev nD) : FVec F S1x128x512 .f32 :=
  k0_pay24 (qb m ρ c) (wob m ρ c) (maskA c) (k0_pay19 (w10 m ρ c)) (k0_pay20 (qb m ρ c) (maskA c) (w10 m ρ c))
    (k0_pay21 (qb m ρ c) (maskA c) (w10 m ρ c)) (k0_pay22 (qb m ρ c) (maskA c) (w10 m ρ c))
def blkC (c : Dev nD) : FVec F S1x128x512 .f32 :=
  k0_pay1 (k0_pay35 (wob m ρ c) (k0_pay29 (qa m ρ c) (maskB c) (k0_pay26 (w01 m ρ c)) (k0_pay27 (pos c) (qa m ρ c) (w01 m ρ c))
    (k0_pay28 (pos c) (qa m ρ c) (w01 m ρ c))))
def blkD (c : Dev nD) : FVec F S1x128x512 .f32 :=
  k0_pay2 (wob m ρ c) (k0_pay34 (qb m ρ c) (maskB c) (k0_pay30 (w11 m ρ c)) (k0_pay32 (qb m ρ c) (maskB c) (w11 m ρ c))
    (k0_pay33 (qb m ρ c) (maskB c) (w11 m ρ c)))

/-- The output block of the device: entry `(b, r, j)`. -/
def outAt (c : Dev nD) (b r j : ℕ) : Elt F .f32 :=
  if r < 128 then at3 (n₀ := 1) (n₁ := 128) (n₂ := 512) (if b = 0 then blkA m ρ c else blkB m ρ c) 0 r j
  else at3 (n₀ := 1) (n₁ := 128) (n₂ := 512) (if b = 0 then blkC m ρ c else blkD m ρ c) 0 (r - 128) j
def outFull (c : Dev nD) : Vec F S2x256x512 .f32 := fun i => outAt m ρ c (i 0).val (i 1).val (i 2).val

/-! ## The four stores make the output block -/

abbrev oRect (b r : ℕ) (inb : ∀ a, (![b, r, 0] : Fin 3 → ℕ) a + S1x128x512.size a ≤ S2x256x512.size a) : Rect S2x256x512 :=
  Rect.unit (s := S2x256x512) ![b, r, 0] S1x128x512.size inb
abbrev r00 := oRect 0 0 inb_S2x256x512_S1x128x512_0_0_0
abbrev r10 := oRect 1 0 inb_S2x256x512_S1x128x512_1_0_0
abbrev r01 := oRect 0 128 inb_S2x256x512_S1x128x512_0_128_0
abbrev r11 := oRect 1 128 inb_S2x256x512_S1x128x512_1_128_0

theorem mem_oRect (b r : ℕ) (inb) (i : S2x256x512.Idx) :
    i ∈ (oRect b r inb).set ↔ (i 0).val = b ∧ r ≤ (i 1).val ∧ (i 1).val < r + 128 := by
  rw [Rect.mem_set_unit]
  constructor
  · intro h
    have h0 : b ≤ (i 0).val ∧ (i 0).val < b + 1 := h 0
    have h1 : r ≤ (i 1).val ∧ (i 1).val < r + 128 := h 1
    exact ⟨by omega, h1⟩
  · intro h a
    match a with
    | ⟨0, _⟩ => exact ⟨h.1.ge, by show (i 0).val < b + 1; omega⟩
    | ⟨1, _⟩ => exact h.2
    | ⟨2, _⟩ => exact ⟨Nat.zero_le _, by show (i 2).val < 0 + 512; have : (i 2).val < 512 := (i 2).isLt; omega⟩

abbrev wr (b r : ℕ) (inb : ∀ a, (![b, r, 0] : Fin 3 → ℕ) a + S1x128x512.size a ≤ S2x256x512.size a) (f : Vec F S2x256x512 .f32) (w : S1x128x512.Idx → Elt F .f32) : Vec F S2x256x512 .f32 :=
  (oM.access (oRect b r inb)).write (Elt F) f w Finset.univ

omit [FloatOps F] [Named F] in
theorem wr_in {b r : ℕ} {inb} (f : Vec F S2x256x512 .f32) (w : S1x128x512.Idx → Elt F .f32) (i : S2x256x512.Idx)
    (hb : (i 0).val = b) (h1 : r ≤ (i 1).val) (h2 : (i 1).val < r + 128) :
    wr b r inb f w i = at3 (n₀ := 1) (n₁ := 128) (n₂ := 512) w 0 ((i 1).val - r) (i 2).val := by
  have hi := (mem_oRect b r inb i).mpr ⟨hb, h1, h2⟩
  rw [← Rect.map_emb_univ] at hi
  obtain ⟨k, -, rfl⟩ := Finset.mem_map.mp hi
  refine (View.write_emb_of_mem (v := (oM.access (oRect b r inb) : View sig .tc _ _ _)) (Val := Elt F) f w (Finset.mem_univ k)).trans ?_
  refine (at3_eq _ k ?_ ?_ ?_).symm
  · exact Nat.lt_one_iff.mp (k 0).isLt
  · show (k 1).val = r + 1 * (k 1).val - r; omega
  · show (k 2).val = 0 + 1 * (k 2).val; omega

omit [FloatOps F] [Named F] in
theorem wr_out {b r : ℕ} {inb} (f : Vec F S2x256x512 .f32) (w : S1x128x512.Idx → Elt F .f32) (i : S2x256x512.Idx)
    (h : ¬ ((i 0).val = b ∧ r ≤ (i 1).val ∧ (i 1).val < r + 128)) : wr b r inb f w i = f i :=
  View.write_of_not_mem (v := (oM.access (oRect b r inb) : View sig .tc _ _ _)) (Val := Elt F) f w Finset.univ
    (by rw [View.setOn_univ, show (oM.access (oRect b r inb) : View sig .tc _ _ _).set = (oRect b r inb).set from View.set_slice_whole _ _, mem_oRect]
        exact h)

/-- Whatever the output buffer held, the four stores leave the output block. -/
theorem stores_eq (c : Dev nD) (f : Vec F S2x256x512 .f32) :
    wr 1 128 inb_S2x256x512_S1x128x512_1_128_0 (wr 0 128 inb_S2x256x512_S1x128x512_0_128_0
      (wr 1 0 inb_S2x256x512_S1x128x512_1_0_0 (wr 0 0 inb_S2x256x512_S1x128x512_0_0_0 f (blkA m ρ c)) (blkB m ρ c)) (blkC m ρ c)) (blkD m ρ c)
      = outFull m ρ c := by
  funext i
  have h0 : (i 0).val < 2 := (i 0).isLt
  have h1 : (i 1).val < 256 := (i 1).isLt
  show _ = outAt m ρ c (i 0).val (i 1).val (i 2).val
  unfold outAt
  by_cases hr : (i 1).val < 128
  · rw [if_pos hr]
    rw [wr_out _ _ i (by omega), wr_out _ _ i (by omega)]
    by_cases hb : (i 0).val = 0
    · rw [wr_out _ _ i (by omega), wr_in _ _ i hb (by omega) (by omega), if_pos hb]; rfl
    · rw [wr_in _ _ i (by omega) (by omega) (by omega), if_neg hb]; rfl
  · rw [if_neg hr]
    by_cases hb : (i 0).val = 0
    · rw [wr_out _ _ i (by omega), wr_in _ _ i hb (by omega) (by omega), if_pos hb]
    · rw [wr_in _ _ i (by omega) (by omega) (by omega), if_neg hb]

/-! ## The stretches -/

abbrev ost (c : Dev nD) (f : Vec F S2x256x512 .f32) : sProp 𝕄 := stg c cc0_stg5_0 f

theorem rw00_sub : rw00.set ⊆ rows 0 384 := fun i hi => by
  rw [Rect.mem_set_unit] at hi; rw [mem_rows]; exact hi 1
theorem rw10_sub : rw10.set ⊆ rows 0 384 := fun i hi => by
  rw [Rect.mem_set_unit] at hi; rw [mem_rows]; exact hi 1
theorem all_sub (A : Finset S2x512x512.Idx) : A ⊆ rows 0 512 := by rw [rows_all]; exact Finset.subset_univ _

/-- The upper window of the first batch entry is read. -/
theorem part3 (c : Dev nD) (v43 : FVec F S256x256 .bf16) (v54 : IVec S128x384 32) (v55 : IVec S128x384 32) (v60 : IVec S128x384 32) (v61 : IVec S128x384 1) (Q : (Σ' (v71 : IVec S128x384 1) (v73 : FVec F S384x512 .bf16) (v86 : FVec F S128x64 .f32) (v99 : FVec F S128x64 .f32), FVec F S128x384 .f32) → sProp 𝕄) :
    (kvPts c 0 384 fullShare.left (kvFull m ρ c))
      ⊢ iprop((kvPts c 0 384 fullShare.left (kvFull m ρ c) -∗ Q ⟨k0_pay13 v54 v55 v60 v61, k0_pay14 (w00 m ρ c), k0_pay15 v43 v54 v55 v60 v61 (w00 m ρ c), k0_pay16 v43 v54 v55 v60 v61 (w00 m ρ c), k0_pay17 v43 v54 v55 v60 v61 (w00 m ρ c)⟩)
        -∗ wp frame (wpE (defs₀ (F := F)) 𝒱₀ (c : Thread nD τ) none) Set.univ
          (k0_part3 xM (Memref.isWhole_whole _) wqM (Memref.isWhole_whole _) kM (Memref.isWhole_whole _) vM (Memref.isWhole_whole _)
            woM (Memref.isWhole_whole _) oM (Memref.isWhole_whole _) kvM (Memref.isWhole_whole _) cc0_scratch1 cc0_scratch2 v43 v54 v55 v60 v61) Q) := by
  rw [k0_part3_eq_skeleton]; unfold k0_part3_skel
  simp only [Prog.lift, Prog.bind_op, Prog.bind_ret, Prog.pure_eq_ret]
  iintro Hm Hk
  unfold kvPts
  iapply (wp_load 𝒱₀ (c : Thread nD τ) none Set.univ (m := kvM) (S := rows 0 384)
    (by rw [kv_setOn]; exact rw00_sub)) $$ Hm
  iintro Hm
  rw [wp_ret]; imodintro
  unfold w00
  iapply Hk; iexact Hm

/-- The upper window of the second batch entry is read. -/
theorem part4 (c : Dev nD) (v43 : FVec F S256x256 .bf16) (v49 : FVec F S256x256 .bf16) (v71 : IVec S128x384 1) (v73 : FVec F S384x512 .bf16) (v86 : FVec F S128x64 .f32) (v99 : FVec F S128x64 .f32) (v105 : FVec F S128x384 .f32) (Q : (Σ' (v126 : FVec F S128x256 .f32) (v128 : FVec F S384x512 .bf16) (v141 : FVec F S128x64 .f32) (v147 : FVec F S128x384 .f32), FVec F S128x1 .f32) → sProp 𝕄) :
    (kvPts c 0 384 fullShare.left (kvFull m ρ c))
      ⊢ iprop((kvPts c 0 384 fullShare.left (kvFull m ρ c) -∗ Q ⟨k0_pay18 v43 v71 v73 v86 v99 v105, k0_pay19 (w10 m ρ c), k0_pay20 v49 v71 (w10 m ρ c), k0_pay21 v49 v71 (w10 m ρ c), k0_pay22 v49 v71 (w10 m ρ c)⟩)
        -∗ wp frame (wpE (defs₀ (F := F)) 𝒱₀ (c : Thread nD τ) none) Set.univ
          (k0_part4 xM (Memref.isWhole_whole _) wqM (Memref.isWhole_whole _) kM (Memref.isWhole_whole _) vM (Memref.isWhole_whole _)
            woM (Memref.isWhole_whole _) oM (Memref.isWhole_whole _) kvM (Memref.isWhole_whole _) cc0_scratch1 cc0_scratch2 v43 v49 v71 v73 v86 v99 v105) Q) := by
  rw [k0_part4_eq_skeleton]; unfold k0_part4_skel
  simp only [Prog.lift, Prog.bind_op, Prog.bind_ret, Prog.pure_eq_ret]
  iintro Hm Hk
  unfold kvPts
  iapply (wp_load 𝒱₀ (c : Thread nD τ) none Set.univ (m := kvM) (S := rows 0 384)
    (by rw [kv_setOn]; exact rw10_sub)) $$ Hm
  iintro Hm
  rw [wp_ret]; imodintro
  unfold w10
  iapply Hk; iexact Hm

/-- The lower window of the second batch entry is read. -/
theorem part7 (c : Dev nD) (v43 : FVec F S256x256 .bf16) (v49 : FVec F S256x256 .bf16) (v211 : IVec S128x384 1) (v213 : FVec F S384x512 .bf16) (v226 : FVec F S128x64 .f32) (v232 : FVec F S128x384 .f32) (Q : (Σ' (v266 : FVec F S128x256 .f32) (v268 : FVec F S384x512 .bf16) (v276 : FVec F S128x1 .f32), FVec F S128x384 .bf16) → sProp 𝕄) :
    (kvPts c 0 512 fullShare.left (kvFull m ρ c))
      ⊢ iprop((kvPts c 0 512 fullShare.left (kvFull m ρ c) -∗ Q ⟨k0_pay29 v43 v211 v213 v226 v232, k0_pay30 (w11 m ρ c), k0_pay32 v49 v211 (w11 m ρ c), k0_pay33 v49 v211 (w11 m ρ c)⟩)
        -∗ wp frame (wpE (defs₀ (F := F)) 𝒱₀ (c : Thread nD τ) none) Set.univ
          (k0_part7 xM (Memref.isWhole_whole _) wqM (Memref.isWhole_whole _) kM (Memref.isWhole_whole _) vM (Memref.isWhole_whole _)
            woM (Memref.isWhole_whole _) oM (Memref.isWhole_whole _) kvM (Memref.isWhole_whole _) cc0_scratch1 cc0_scratch2 v43 v49 v211 v213 v226 v232) Q) := by
  rw [k0_part7_eq_skeleton]; unfold k0_part7_skel
  simp only [Prog.lift, Prog.bind_op, Prog.bind_ret, Prog.pure_eq_ret]
  iintro Hm Hk
  unfold kvPts
  iapply (wp_load 𝒱₀ (c : Thread nD τ) none Set.univ (m := kvM) (S := rows 0 512)
    (by rw [kv_setOn]; exact all_sub _)) $$ Hm
  iintro Hm
  rw [wp_ret]; imodintro
  unfold w11
  iapply Hk; iexact Hm

/-- The first block is stored. -/
theorem part5 (c : Dev nD) (f : Vec F S2x256x512 .f32) (v49 : FVec F S256x256 .bf16) (v51 : FVec F S256x512 .bf16) (v71 : IVec S128x384 1) (v126 : FVec F S128x256 .f32) (v128 : FVec F S384x512 .bf16) (v141 : FVec F S128x64 .f32) (v147 : FVec F S128x384 .f32) (v149 : FVec F S128x1 .f32) (Q : FVec F S1x128x512 .f32 → sProp 𝕄) :
    ost c f
      ⊢ iprop((ost c (wr 0 0 inb_S2x256x512_S1x128x512_0_0_0 f (k0_pay23 v51 v126)) -∗ Q (k0_pay24 v49 v51 v71 v128 v141 v147 v149))
        -∗ wp frame (wpE (defs₀ (F := F)) 𝒱₀ (c : Thread nD τ) none) Set.univ
          (k0_part5 xM (Memref.isWhole_whole _) wqM (Memref.isWhole_whole _) kM (Memref.isWhole_whole _) vM (Memref.isWhole_whole _)
            woM (Memref.isWhole_whole _) oM (Memref.isWhole_whole _) kvM (Memref.isWhole_whole _) cc0_scratch1 cc0_scratch2 v49 v51 v71 v126 v128 v141 v147 v149) Q) := by
  rw [k0_part5_eq_skeleton]; unfold k0_part5_skel
  simp only [Prog.lift, Prog.bind_op, Prog.bind_ret, Prog.pure_eq_ret]
  iintro Ho Hk
  iapply (wp_load 𝒱₀ (c : Thread nD τ) none Set.univ (m := oM) (Finset.subset_univ _)) $$ Ho; iintro Ho
  iapply (wp_store 𝒱₀ (c : Thread nD τ) none Set.univ (m := oM) (r := r00) (Finset.subset_univ _)) $$ Ho; iintro Ho
  iapply (wp_load 𝒱₀ (c : Thread nD τ) none Set.univ (m := oM) (Finset.subset_univ _)) $$ Ho; iintro Ho
  rw [wp_ret]; imodintro
  iapply Hk; iexact Ho

/-- The second block is stored, the right halo awaited, and the lower window of the first batch entry read. -/
theorem part6 (c : Dev nD) (f : Vec F S2x256x512 .f32) (W : Waits sig Unit) (v43 : FVec F S256x256 .bf16) (v191 : FVec F S1x128x512 .f32)
    (Q : (Σ' (v211 : IVec S128x384 1) (v213 : FVec F S384x512 .bf16) (v226 : FVec F S128x64 .f32), FVec F S128x384 .f32) → sProp 𝕄) :
    iprop(shared m ρ K false c ∗ ost c f ∗ owes (c : Thread nD τ) 0 W ∗ kvPts c 0 384 fullShare.left (kvFull m ρ c)
        ∗ (haloB m ρ false c ∗ cred (tallyAt (recvCell false c) () (amt false c)) ∗ atPos EX (recvCell false c) 0 ∅ 0))
      ⊢ iprop(((ost c (wr 1 0 inb_S2x256x512_S1x128x512_1_0_0 f v191) ∗ (∃ W', owes (c : Thread nD τ) 0 W')
            ∗ kvPts c 0 512 fullShare.left (kvFull m ρ c) ∗ kvPts c 384 512 fullShare.right (kvFull m ρ c) ∗ semVal (recvCell false c) 0)
          -∗ Q ⟨k0_pay25 (pos c), k0_pay26 (w01 m ρ c), k0_pay27 (pos c) v43 (w01 m ρ c), k0_pay28 (pos c) v43 (w01 m ρ c)⟩)
        -∗ wp frame (wpE (defs₀ (F := F)) 𝒱₀ (c : Thread nD τ) none) Set.univ
          (k0_part6 xM (Memref.isWhole_whole _) wqM (Memref.isWhole_whole _) kM (Memref.isWhole_whole _) vM (Memref.isWhole_whole _)
            woM (Memref.isWhole_whole _) oM (Memref.isWhole_whole _) kvM (Memref.isWhole_whole _) cc0_scratch1 cc0_scratch2 (pos c) (bitR c) v43 v191) Q) := by
  rw [k0_part6_eq_skeleton]; unfold k0_part6_skel
  simp only [Prog.lift, Prog.bind_op, Prog.bind_ret, Prog.pure_eq_ret]
  iintro ⟨#Hs, Ho, HO, Hm, ⟨Hh, HcV, HatV⟩⟩ Hk
  iapply (wp_store 𝒱₀ (c : Thread nD τ) none Set.univ (m := oM) (r := r10) (Finset.subset_univ _)) $$ Ho; iintro Ho
  iapply (waitTransfer m ρ false c (isR c) (K (c, iR false)) (recvS false) (kvPts c 384 512 fullShare (kvFull m ρ c))
    (duties_recv m ρ false c) (expect_recv m ρ false c) (payload_recv m ρ false c) _ rfl _ _ (credit_eq 384 _ _) _ _ W) $$ [HO Hh HcV HatV]
  · unfold shared
    icases Hs with ⟨-, #HI, -⟩
    isplitr; · iexact HI
    isplitl [HcV]; · iexact HcV
    isplitl [HO]; · iexact HO
    isplitl [HatV]; · iexact HatV
    unfold haloB; iexact Hh
  iintro ⟨%W3, HO, Hh, HzV⟩
  ihave Hh := (Entails.of_eq kv_halves) $$ Hh
  icases Hh with ⟨HhL, HhR⟩
  ihave Hm := (Entails.of_eq (kv_join (c := c) (a := 0) (b := 384) (d := 512) (by decide) (by decide))) $$ [Hm HhL]
  · isplitl [Hm] <;> iassumption
  iapply (wp_load 𝒱₀ (c : Thread nD τ) none Set.univ (m := kvM) (S := rows 0 512)
    (by rw [kv_setOn]; exact all_sub _)) $$ [Hm]
  · unfold kvPts; iexact Hm
  iintro Hm
  rw [wp_ret]; imodintro
  unfold w01
  iapply Hk
  isplitl [Ho]; · iexact Ho
  isplitl [HO]; · iexists W3; iexact HO
  isplitl [Hm]; · unfold kvPts; iexact Hm
  isplitl [HhR] <;> iassumption

/-! ## The whole body -/

/-- What a device holds of side `s` at the start: its places at its two cells of the side, and the tokens of the three
    arrivals it pays for towards that side. -/
def lin (s : Bool) (c : Dev nD) : sProp 𝕄 :=
  iprop(atPos EX (sendCell s c) 0 ∅ 0 ∗ atPos EX (recvCell s c) 0 ∅ 0 ∗ dutyTok EX (barCell (nb s c)) 0 (!s)
    ∗ dutyTok EX (recvCell (!s) (nb s c)) 0 (!s) ∗ dutyTok EX (sendCell s c) 0 s)

/-- The exchange's records and tokens of one device. -/
def ghost (c : Dev nD) : sProp 𝕄 :=
  iprop((cellInv EX (sched m ρ) (K (c, 0)) (barCell c) ∗ shared m ρ K true c ∗ shared m ρ K false c)
    ∗ atPos EX (barCell c) 0 ∅ 0 ∗ lin true c ∗ lin false c)

/-- The credit one device's waits draw on. -/
def credits (c : Dev nD) : sProp 𝕄 :=
  iprop((cred (tallyAt (barCell c) () (one true c)) ∗ cred (tallyAt (barCell c) () (one false c)))
    ∗ cred (tallyAt (recvCell true c) () (amt true c)) ∗ cred (tallyAt (recvCell false c) () (amt false c)))

/-- The staged operands of one device. -/
def operands (c : Dev nD) : sProp 𝕄 :=
  iprop(stg c cc0_stg0_0 (xStg m ρ c) ∗ stg c cc0_stg1_0 (wqStg m ρ c) ∗ stg c cc0_stg2_0 (kStg m ρ c)
    ∗ stg c cc0_stg3_0 (vStg m ρ c) ∗ stg c cc0_stg4_0 (woStg m ρ c))

/-- The five cells of one device, at zero. -/
def zeros (c : Dev nD) : sProp 𝕄 :=
  iprop((semVal (sendCell true c) 0 ∗ semVal (recvCell true c) 0) ∗ (semVal (sendCell false c) 0 ∗ semVal (recvCell false c) 0))

set_option maxHeartbeats 4000000 in
/-- The body of the kernel on one device. -/
theorem body_run (c : Dev nD) (f : Buf (Elt F) (kvLoc c)) (g : Vec F S2x256x512 .f32) (W : Waits sig Unit) (Q : PUnit → sProp 𝕄) :
    iprop(ghost m ρ K c ∗ (credits c ∗ levAts L lv) ∗ owes (c : Thread nD τ) (O₀ c) W ∗ operands m ρ c ∗ ost c g ∗ (kvLoc c ↦{fullShare} f))
      ⊢ iprop((((∃ W', owes (c : Thread nD τ) 0 W') ∗ operands m ρ c ∗ ost c (outFull m ρ c) ∗ (kvLoc c ↦{fullShare} kvFull m ρ c)
            ∗ zeros c ∗ semVal (barCell c) 0) -∗ Q ⟨⟩)
        -∗ wp frame (wpE (defs₀ (F := F)) 𝒱₀ (c : Thread nD τ) none) Set.univ
          (cc0_body xM (Memref.isWhole_whole _) wqM (Memref.isWhole_whole _) kM (Memref.isWhole_whole _) vM (Memref.isWhole_whole _)
            woM (Memref.isWhole_whole _) oM (Memref.isWhole_whole _) kvM (Memref.isWhole_whole _) cc0_scratch1 cc0_scratch2) Q) := by
  rw [cc0_body_eq_skeleton]; unfold cc0_body_skel
  unfold ghost credits operands O₀ lin
  iintro ⟨⟨⟨#HIb, #HsL, #HsR⟩, HatB, ⟨HatSL, HatVL, HtBL, HtVL, HtSL⟩, ⟨HatSR, HatVR, HtBR, HtVR, HtSR⟩⟩,
    ⟨⟨⟨HcB1, HcB2⟩, HcVL, HcVR⟩, #Hlv⟩, HO, ⟨HX, HWq, HK, HV, HWo⟩, Ho, Hkv⟩ Hk
  rw [wp_bind]
  iapply (part1 m ρ K c f (owR false c + owR true c) W) $$ [HO HK HV Hkv HtBL HtBR]
  · isplitr; · iexact HsL
    isplitr; · iexact HsR
    isplitl [HK]; · iexact HK
    isplitl [HV]; · iexact HV
    isplitl [Hkv]; · iapply (Entails.of_eq kv_whole.symm); iexact Hkv
    isplitl [HO]; · iexact HO
    isplitl [HtBL] <;> iassumption
  iintro ⟨HK, HV, Hm, HhL, HhR, HO⟩
  dsimp only
  ihave Hm := (Entails.of_eq kv_halves) $$ Hm
  icases Hm with ⟨Hm, HmR⟩
  ihave HmR := (Entails.of_eq (kv_join (c := c) (a := 128) (b := 256) (d := 384) (by decide) (by decide)).symm) $$ HmR
  icases HmR with ⟨HpL, HpR⟩
  rw [wp_bind]
  iapply (part2 m ρ K c W) $$ [HX HWq HWo HO HcB1 HcB2 HatB HpL HtSL HtVL HpR HtSR HtVR HhL HcVL HatVL]
  · isplitr
    · isplitr; · iexact HsL
      isplitr; · iexact HsR
      isplitr; · iexact HIb
      iexact Hlv
    isplitl [HX HWq HWo]
    · isplitl [HX]; · iexact HX
      isplitl [HWq] <;> iassumption
    isplitl [HO]; · iexact HO
    isplitl [HcB1 HcB2 HatB]
    · isplitl [HcB1]; · iexact HcB1
      isplitl [HcB2] <;> iassumption
    isplitl [HpL HtSL HtVL]
    · isplitl [HpL]; · unfold sendPay; iexact HpL
      isplitl [HtSL] <;> iassumption
    isplitl [HpR HtSR HtVR]
    · isplitl [HpR]; · unfold sendPay; iexact HpR
      isplitl [HtSR] <;> iassumption
    isplitl [HhL]; · iexact HhL
    isplitl [HcVL] <;> iassumption
  iintro ⟨⟨HX, HWq, HWo⟩, ⟨%W1, HO⟩, HzB, ⟨HcSL, HlL⟩, ⟨HcSR, HlR⟩, HhL, HzVL⟩
  dsimp only
  ihave HhL := (Entails.of_eq kv_halves) $$ HhL
  icases HhL with ⟨HhL, HhLR⟩
  ihave Hm := (Entails.of_eq (kv_join (c := c) (a := 0) (b := 128) (d := 384) (by decide) (by decide))) $$ [Hm HhL]
  · isplitl [HhL] <;> iassumption
  rw [wp_bind]
  iapply (part3 m ρ c) $$ Hm; iintro Hm; dsimp only
  rw [wp_bind]
  iapply (part4 m ρ c) $$ Hm; iintro Hm; dsimp only
  rw [wp_bind]
  iapply (part5 c) $$ Ho; iintro Ho
  rw [wp_bind]
  iapply (part6 m ρ K c _ W1) $$ [Ho HO Hm HhR HcVR HatVR]
  · isplitr; · iexact HsR
    isplitl [Ho]; · iexact Ho
    isplitl [HO]; · iexact HO
    isplitl [Hm]; · iexact Hm
    isplitl [HhR]; · iexact HhR
    isplitl [HcVR] <;> iassumption
  iintro ⟨Ho, ⟨%W2, HO⟩, Hm, HhRR, HzVR⟩
  dsimp only
  rw [wp_bind]
  iapply (part7 m ρ c) $$ Hm; iintro Hm; dsimp only
  rw [k0_part8_eq_skeleton]; unfold k0_part8_skel
  simp only [Prog.lift, Prog.bind_op, Prog.bind_ret, Prog.pure_eq_ret]
  iapply (wp_load 𝒱₀ (c : Thread nD τ) none Set.univ (m := oM) (Finset.subset_univ _)) $$ Ho; iintro Ho
  iapply (wp_store 𝒱₀ (c : Thread nD τ) none Set.univ (m := oM) (r := r01) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := r11) (Finset.subset_univ _)) $$ Ho; iintro Ho
  iapply (waitTransfer m ρ true c (isL c) (K (c, iS true)) (sendS true) (sendPay m ρ true c)
    (duties_send m ρ true c) (expect_send m ρ true c) (payload_send m ρ true c) _ rfl _ _ (credit_eq 128 _ _) _ _ W2) $$ [HO HcSL HlL HatSL]
  · unfold shared
    icases HsL with ⟨#HI, -⟩
    isplitr; · iexact HI
    isplitl [HcSL]; · iexact HcSL
    isplitl [HO]; · iexact HO
    isplitl [HatSL]; · iexact HatSL
    unfold lent; iexact HlL
  iintro ⟨%W3, HO, HpL, HzSL⟩
  iapply (waitTransfer m ρ false c (isR c) (K (c, iS false)) (sendS false) (sendPay m ρ false c)
    (duties_send m ρ false c) (expect_send m ρ false c) (payload_send m ρ false c) _ rfl _ _ (credit_eq 256 _ _) _ _ W3) $$ [HO HcSR HlR HatSR]
  · unfold shared
    icases HsR with ⟨#HI, -⟩
    isplitr; · iexact HI
    isplitl [HcSR]; · iexact HcSR
    isplitl [HO]; · iexact HO
    isplitl [HatSR]; · iexact HatSR
    unfold lent; iexact HlR
  iintro ⟨%W4, HO, HpR, HzSR⟩
  rw [wp_ret]; imodintro
  unfold zeros
  ihave HpL := (Entails.of_eq (show sendPay m ρ true c = kvPts c 128 256 fullShare.right (kvFull m ρ c) from rfl)) $$ HpL
  ihave HpR := (Entails.of_eq (show sendPay m ρ false c = kvPts c 256 384 fullShare.right (kvFull m ρ c) from rfl)) $$ HpR
  ihave HpR := (Entails.of_eq (kv_join (c := c) (a := 256) (b := 384) (d := 512) (by decide) (by decide))) $$ [HpR HhRR]
  · isplitl [HpR] <;> iassumption
  ihave HpR := (Entails.of_eq (kv_join (c := c) (a := 128) (b := 256) (d := 512) (by decide) (by decide))) $$ [HpL HpR]
  · isplitl [HpL] <;> iassumption
  ihave HpR := (Entails.of_eq (kv_join (c := c) (a := 0) (b := 128) (d := 512) (by decide) (by decide))) $$ [HhLR HpR]
  · isplitl [HhLR] <;> iassumption
  ihave Hm := (Entails.of_eq (kv_halves (c := c) (a := 0) (b := 512)).symm) $$ [Hm HpR]
  · isplitl [Hm] <;> iassumption
  ihave Hm := (Entails.of_eq kv_whole) $$ Hm
  iapply Hk
  isplitl [HO]; · iexists W4; iexact HO
  isplitl [HX HWq HK HV HWo]
  · isplitl [HX]; · iexact HX
    isplitl [HWq]; · iexact HWq
    isplitl [HK]; · iexact HK
    isplitl [HV] <;> iassumption
  isplitl [Ho]
  · rw [← stores_eq m ρ c g]; unfold blkA blkB blkC blkD qa qb wob maskA maskB; iexact Ho
  isplitl [Hm]; · iexact Hm
  isplitr [HzB]
  · isplitl [HzSL HzVL]
    · isplitl [HzSL] <;> iassumption
    · isplitl [HzSR] <;> iassumption
  iexact HzB

end Cert.K
-- ==== Proof.Run.lean ====
/-
# The launch

The sixteen bodies run together: what each device is handed at launch and hands back, how the exchange's records, tokens
and credits are dealt out, and the run of the whole program. At its end every argument array holds what it held, the result
array holds the computed output block, and every semaphore counter is at zero.
-/
module

public import proofs.«01_k».proof.Proof.Compute
public import Idealize.ShloMosaic.Lib.Pipeline.CollectiveSegs

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the staging is told of a device's body -/

def start (c : Dev nD) : sProp 𝕄 := iprop((∃ K, ghost m ρ K c) ∗ credits c ∗ levAts L lv)

/-- Before the body: the exchange's start and the key/value buffer, of whatever contents. -/
def before₀ (c : Dev nD) : sProp 𝕄 := iprop(start m ρ c ∗ ∃ f, (kvLoc c ↦{fullShare} f))
/-- After the body: the buffer as exchanged and all five semaphores at zero. -/
def after₀ (c : Dev nD) : sProp 𝕄 := iprop((kvLoc c ↦{fullShare} kvFull m ρ c) ∗ zeros c ∗ semVal (barCell c) 0)

/-- The proof data of the one staged region. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xStg m ρ c
    | ⟨1, _⟩ => wqStg m ρ c
    | ⟨2, _⟩ => kStg m ρ c
    | ⟨3, _⟩ => vStg m ρ c
    | ⟨4, _⟩ => woStg m ρ c
    | ⟨5, _⟩ => outFull m ρ c
  Φ t := match t with
    | ⟨0, _⟩ => before₀ m ρ c
    | ⟨_ + 1, _⟩ => after₀ m ρ c
  q _ := fullShare
  owed t := match t with
    | ⟨0, _⟩ => O₀ c
    | ⟨_ + 1, _⟩ => 0

omit [FloatOps F] [Named F] in
/-- Owning a whole buffer at given contents, as a points-to. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

abbrev d₀ (c : Dev nD) := dats m ρ 0 c

def obligPre (c : Dev nD) : sProp 𝕄 :=
  iprop(before₀ m ρ c ∗ (d₀ m ρ c).owesAt () t0_0.castSucc
    ∗ (∃ d, held c cc0_stg0_0 ((d₀ m ρ c).before (0 : Fin 6) t0_0 d)) ∗ (∃ d, held c cc0_stg1_0 ((d₀ m ρ c).before (1 : Fin 6) t0_0 d))
    ∗ (∃ d, held c cc0_stg2_0 ((d₀ m ρ c).before (2 : Fin 6) t0_0 d)) ∗ (∃ d, held c cc0_stg3_0 ((d₀ m ρ c).before (3 : Fin 6) t0_0 d))
    ∗ (∃ d, held c cc0_stg4_0 ((d₀ m ρ c).before (4 : Fin 6) t0_0 d)) ∗ (∃ d, held c cc0_stg5_0 ((d₀ m ρ c).before (5 : Fin 6) t0_0 d)))
def obligPost (c : Dev nD) : sProp 𝕄 :=
  iprop(after₀ m ρ c ∗ (d₀ m ρ c).owesAt () t0_0.succ
    ∗ held c cc0_stg0_0 (xStg m ρ c) ∗ held c cc0_stg1_0 (wqStg m ρ c) ∗ held c cc0_stg2_0 (kStg m ρ c)
    ∗ held c cc0_stg3_0 (vStg m ρ c) ∗ held c cc0_stg4_0 (woStg m ρ c) ∗ held c cc0_stg5_0 (outFull m ρ c))

theorem fetch_0 (t : Fin cfg0.N) : (cfg0.win (0 : Fin 6)).fetch t = true := by rw [fin_N0 t]; rfl
theorem fetch_1 (t : Fin cfg0.N) : (cfg0.win (1 : Fin 6)).fetch t = true := by rw [fin_N0 t]; rfl
theorem fetch_2 (t : Fin cfg0.N) : (cfg0.win (2 : Fin 6)).fetch t = true := by rw [fin_N0 t]; rfl
theorem fetch_3 (t : Fin cfg0.N) : (cfg0.win (3 : Fin 6)).fetch t = true := by rw [fin_N0 t]; rfl
theorem fetch_4 (t : Fin cfg0.N) : (cfg0.win (4 : Fin 6)).fetch t = true := by rw [fin_N0 t]; rfl

set_option maxHeartbeats 1000000 in
/-- The body, between what the staging provides and what it takes back. -/
theorem obligation_run (c : Dev nD) :
    obligPre m ρ c ⊢ wp frame (wpE (defs₀ (F := F)) 𝒱₀ (c : Thread nD τ) none) Set.univ
      (cc0_body xM (Memref.isWhole_whole _) wqM (Memref.isWhole_whole _) kM (Memref.isWhole_whole _) vM (Memref.isWhole_whole _)
      woM (Memref.isWhole_whole _) oM (Memref.isWhole_whole _) kvM (Memref.isWhole_whole _) cc0_scratch1 cc0_scratch2) (fun _ => obligPost m ρ c) := by
  unfold obligPre before₀ start
  iintro ⟨⟨⟨⟨%K, Hg⟩, Hrest⟩, ⟨%f, Hkv⟩⟩, Ho, ⟨%e0, %g0, %h0, H0⟩, ⟨%e1, %g1, %h1, H1⟩, ⟨%e2, %g2, %h2, H2⟩, ⟨%e3, %g3, %h3, H3⟩,
    ⟨%e4, %g4, %h4, H4⟩, ⟨%e5, %g5, %h5, H5⟩⟩
  have h0 : g0 = xStg m ρ c := by rw [h0]; unfold Dat.before; rw [if_pos (fetch_0 t0_0)]; rfl
  have h1 : g1 = wqStg m ρ c := by rw [h1]; unfold Dat.before; rw [if_pos (fetch_1 t0_0)]; rfl
  have h2 : g2 = kStg m ρ c := by rw [h2]; unfold Dat.before; rw [if_pos (fetch_2 t0_0)]; rfl
  have h3 : g3 = vStg m ρ c := by rw [h3]; unfold Dat.before; rw [if_pos (fetch_3 t0_0)]; rfl
  have h4 : g4 = woStg m ρ c := by rw [h4]; unfold Dat.before; rw [if_pos (fetch_4 t0_0)]; rfl
  subst h0 h1 h2 h3 h4
  unfold Dat.owesAt Pipeline.owesWithin
  icases Ho with ⟨%W, %hW, HO⟩
  rw [show (dats m ρ 0 c).owed t0_0.castSucc = O₀ c from rfl]
  iapply (body_run m ρ K c f g5 W) $$ [Hg Hrest Hkv HO H0 H1 H2 H3 H4 H5]
  · isplitl [Hg]; · iexact Hg
    isplitl [Hrest]; · iexact Hrest
    isplitl [HO]; · iexact HO
    isplitl [H0 H1 H2 H3 H4]
    · unfold operands
      isplitl [H0]; · iexact H0
      isplitl [H1]; · iexact H1
      isplitl [H2]; · iexact H2
      isplitl [H3] <;> iassumption
    isplitl [H5]; · iexact H5
    iexact Hkv
  unfold operands
  iintro ⟨⟨%W', HO⟩, ⟨H0, H1, H2, H3, H4⟩, H5, Hkv, Hz, HzB⟩
  unfold obligPost after₀ Dat.owesAt Pipeline.owesWithin
  rw [show (dats m ρ 0 c).owed t0_0.succ = 0 from rfl]
  isplitl [Hkv Hz HzB]
  · isplitl [Hkv]; · iexact Hkv
    isplitl [Hz] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
/-- The body obligation of every device. -/
theorem obligation (c : Dev nD) : BodyObligation (dats (F := F) m ρ 0 c) (defs₀ (F := F)) 𝒱₀ () Set.univ := fun t => by
  rw [fin_N0 t]
  have hW (Φ : Fin cfg0.W → sProp 𝕄) : bigSep Finset.univ Φ
      = iprop(Φ (0 : Fin 6) ∗ Φ (1 : Fin 6) ∗ Φ (2 : Fin 6) ∗ Φ (3 : Fin 6) ∗ Φ (4 : Fin 6) ∗ Φ (5 : Fin 6)) := bigSep_W0 Φ
  rw [hW, hW]
  simp only [owns_whole]
  exact obligation_run m ρ c

/-! ## Dealing out the exchange's records and tokens -/

theorem ownSemFacts : Pipeline.OwnSemFacts cfg0.spec osem := by decide

theorem share_eq (c : Dev nD) (w : Fin cfg0.W) : (dats m ρ 0 c).share w = fullShare := by unfold Dat.share; split <;> rfl

theorem csem_inj : Function.Injective csem := by decide

theorem kcell_injective : Function.Injective (kcell : Dev nD × Fin 5 → GSem nD τ sig) := by
  rintro ⟨c, k⟩ ⟨c', k'⟩ h
  have hc : c = c' := congrArg (fun g : GSem nD τ sig => g.1.1) h
  have hk : k = k' := csem_inj (congrArg Prod.snd h)
  rw [hc, hk]

/-- The cells of the exchange. -/
def lineCells : Finset (GSem nD τ sig) := Finset.univ.map ⟨kcell, kcell_injective⟩

/-- The token of one duty: of which device's cell, of which of its three kinds, of which side. -/
abbrev kindSem : Fin 3 × Bool → SemLoc sig
  | (0, _) => .reg barS
  | (1, s) => .dma (sendS s)
  | (2, s) => .dma (recvS s)
theorem kind_inj : ∀ x y : Fin 3 × Bool, kindSem x = kindSem y → x.2 = y.2 → x = y := by decide

abbrev tokOf (x : Dev nD × Fin 3 × Bool) : GSem nD τ sig × ℕ × Bool := (((x.1 : Thread nD τ), kindSem x.2), 0, x.2.2)
theorem tokOf_injective : Function.Injective tokOf := by
  rintro ⟨c, x⟩ ⟨c', x'⟩ h
  have hc : c = c' := congrArg (fun g : GSem nD τ sig × ℕ × Bool => g.1.1.1) h
  have hx : x = x' := kind_inj x x' (congrArg (fun g : GSem nD τ sig × ℕ × Bool => g.1.2) h)
    (congrArg (fun g : GSem nD τ sig × ℕ × Bool => g.2.2) h)
  rw [hc, hx]
def lineToks : Finset (GSem nD τ sig × ℕ × Bool) := Finset.univ.map ⟨tokOf, tokOf_injective⟩

/-- The launch element: the staging copies' rounds and the exchange's. -/
def u₀ : UU :=
  (initOf (Pipeline.cells cfgs cellOf_inj) (Pipeline.launchToks cfgs cellOf_inj), initOf lineCells lineToks)

/-- The tokens of side `s` of a device's own cells. -/
def tok (s : Bool) (c : Dev nD) : sProp 𝕄 :=
  iprop(dutyTok EX (barCell c) 0 s ∗ dutyTok EX (sendCell s c) 0 s ∗ dutyTok EX (recvCell s c) 0 s)

/-- What the launch deals a device. -/
def dealt (c : Dev nD) : sProp 𝕄 :=
  iprop((bigSep Finset.univ fun k : Fin 5 => roundState EX (sched m ρ) (kcell (c, k)) 0)
    ∗ (bigSep Finset.univ fun k : Fin 5 => iprop(atPos EX (kcell (c, k)) 0 ∅ 0 ∗ reached EX (kcell (c, k)) 0))
    ∗ tok true c ∗ tok false c)

def ready (c : Dev nD) : sProp 𝕄 := iprop(∃ K, ghost m ρ K c)

omit [FloatOps F] [Named F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] [Named F] in
theorem bigSep_kinds (Φ : Fin 3 × Bool → sProp 𝕄) : bigSep Finset.univ Φ
    = iprop(Φ (0, true) ∗ Φ (1, true) ∗ Φ (2, true) ∗ Φ (0, false) ∗ Φ (1, false) ∗ Φ (2, false)) :=
  bigSep_univ_eq_bigSepL [(0, true), (1, true), (2, true), (0, false), (1, false), (2, false)] (by decide) (by decide) Φ

theorem fund_line : BI.own (EX (initOf lineCells lineToks)) ⊢ (|==> bigSep Finset.univ (dealt m ρ) : sProp 𝕄) := by
  have hX (Φ : GSem nD τ sig → sProp 𝕄) : bigSep lineCells Φ = bigSep Finset.univ fun c : Dev nD => bigSep Finset.univ fun k : Fin 5 => Φ (kcell (c, k)) := by
    unfold lineCells; rw [bigSep_map, bigSep_univ_prod]; rfl
  have hT : bigSep lineToks (fun x => (dutyTok EX x.1 x.2.1 x.2.2 : sProp 𝕄)) = bigSep Finset.univ fun c : Dev nD => iprop(tok true c ∗ tok false c) := by
    unfold lineToks; rw [bigSep_map, bigSep_univ_prod]
    refine bigSep_congr fun c _ => ?_
    rw [bigSep_kinds]; unfold tok
    refine equiv_iff.mp ⟨?_, ?_⟩
    · show iprop(dutyTok EX (barCell c) 0 true ∗ dutyTok EX (sendCell true c) 0 true ∗ dutyTok EX (recvCell true c) 0 true
        ∗ dutyTok EX (barCell c) 0 false ∗ dutyTok EX (sendCell false c) 0 false ∗ dutyTok EX (recvCell false c) 0 false) ⊢ _
      iintro ⟨H1, H2, H3, H4⟩
      isplitl [H1 H2 H3]
      · isplitl [H1]; · iexact H1
        isplitl [H2] <;> iassumption
      · iexact H4
    · show _ ⊢ iprop(dutyTok EX (barCell c) 0 true ∗ dutyTok EX (sendCell true c) 0 true ∗ dutyTok EX (recvCell true c) 0 true
        ∗ dutyTok EX (barCell c) 0 false ∗ dutyTok EX (sendCell false c) 0 false ∗ dutyTok EX (recvCell false c) 0 false)
      iintro ⟨⟨H1, H2, H3⟩, H4⟩
      isplitl [H1]; · iexact H1
      isplitl [H2]; · iexact H2
      isplitl [H3]; · iexact H3
      iexact H4
  iintro HX
  imod (Rounds.fund EX (sched m ρ) lineCells lineToks) $$ HX with ⟨Hst, Hr, Hat, Htok⟩
  imodintro
  ihave Hst' := (Entails.of_eq (hX fun g => roundState EX (sched m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] [Named F] in
/-- The four transfer semaphores are the kernel's own. -/
theorem ownSems0_eq (c : Dev nD) : (Pipeline.ownSems0 (Ix := Unit) (Name := ℕ) (U := UU) (Lvl := ℕ) (Val := Elt F) (τ := τ) osem c : sProp 𝕄)
    = iprop(semVal (sendCell true c) 0 ∗ semVal (sendCell false c) 0 ∗ semVal (recvCell true c) 0 ∗ semVal (recvCell false c) 0) := by
  rw [Pipeline.ownSems0_eq_of_list c osem [0, 1, 2, 3] (by decide) (by decide)]; rfl
omit [FloatOps F] [Named F] in
/-- The barrier semaphore is the launch's one other. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells are set up: each gets its invariant at some name. -/
theorem cells_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv EX (sched m ρ) κ (kcell (c, k))))
          ∗ (bigSep Finset.univ fun k => iprop(atPos EX (kcell (c, k)) 0 ∅ 0 ∗ reached EX (kcell (c, k)) 0)) ∗ tok true c ∗ tok false c) := by
  unfold dealt
  rw [ownSems0_eq, unscopedSems0_eq]
  iintro ⟨⟨H1, H2, H3, H4⟩, H0, Hst, Hat, Htok⟩
  ihave Hv := (Entails.of_eq (bigSep_five (F := F) fun k => semVal (kcell (c, k)) 0).symm) $$ [H0 H1 H2 H3 H4]
  · isplitl [H0]; · iexact H0
    isplitl [H1]; · iexact H1
    isplitl [H2]; · iexact H2
    isplitl [H3] <;> iassumption
  have hall : iprop((bigSep Finset.univ fun k : Fin 5 => semVal (kcell (c, k)) 0) ∗ bigSep Finset.univ fun k : Fin 5 => roundState EX (sched m ρ) (kcell (c, k)) 0)
      ⊢ (|={Set.univ}=> bigSep Finset.univ fun k => iprop(∃ κ : ℕ, cellInv EX (sched m ρ) κ (kcell (c, k))) : sProp 𝕄) := by
    rw [← bigSep_sep']
    exact (bigSep_mono fun k _ => (Rounds.body_intro EX (sched m ρ) (kcell (c, k))).trans inv_alloc).trans (bigSep_fupd _ _)
  imod hall $$ [Hv Hst] with Hinv
  · isplitl [Hv] <;> iassumption
  imodintro
  isplitl [Hinv]; · iexact Hinv
  isplitl [Hat]; · iexact Hat
  iexact Htok

/-- All cells' invariants, and that all are at their first round. -/
def records (K : Dev nD × Fin 5 → ℕ) : sProp 𝕄 :=
  iprop((bigSep Finset.univ fun ck : Dev nD × Fin 5 => cellInv EX (sched m ρ) (K ck) (kcell ck))
    ∗ bigSep Finset.univ fun ck : Dev nD × Fin 5 => reached EX (kcell ck) 0)

instance records_persistent (K : Dev nD × Fin 5 → ℕ) : BI.Persistent (records m ρ K) := by unfold records; infer_instance

theorem inv_at (K : Dev nD × Fin 5 → ℕ) (ck : Dev nD × Fin 5) : records m ρ K ⊢ cellInv EX (sched m ρ) (K ck) (kcell ck) := by
  unfold records; iintro ⟨H, -⟩
  iapply (show (bigSep Finset.univ fun ck : Dev nD × Fin 5 => cellInv EX (sched m ρ) (K ck) (kcell ck) : sProp 𝕄) ⊢ cellInv EX (sched m ρ) (K ck) (kcell ck)
    from bigSep_elim (Finset.mem_univ ck)); iexact H
theorem reached_at (K : Dev nD × Fin 5 → ℕ) (ck : Dev nD × Fin 5) : records m ρ K ⊢ reached EX (kcell ck) 0 := by
  unfold records; iintro ⟨-, H⟩
  iapply (show (bigSep Finset.univ fun ck : Dev nD × Fin 5 => reached EX (kcell ck) 0 : sProp 𝕄) ⊢ reached EX (kcell ck) 0
    from bigSep_elim (Finset.mem_univ ck)); iexact H

theorem kcell_send (s : Bool) (c : Dev nD) : kcell (c, iS s) = sendCell s c := by cases s <;> rfl
theorem kcell_recv (s : Bool) (c : Dev nD) : kcell (c, iR s) = recvCell s c := by cases s <;> rfl

/-- The records serve either side of every device. -/
theorem shared_intro (K : Dev nD × Fin 5 → ℕ) (s : Bool) (c : Dev nD) : records m ρ K ⊢ shared m ρ K s c := by
  have h1 := inv_at m ρ K (c, iS s)
  have h2 := inv_at m ρ K (c, iR s)
  have h3 : records m ρ K ⊢ cellInv EX (sched m ρ) (K (nb s c, 0)) (barCell (nb s c)) := inv_at m ρ K (nb s c, 0)
  have h4 := inv_at m ρ K (nb s c, iR (!s))
  have h5 := reached_at m ρ K (c, iS s)
  have h6 := reached_at m ρ K (c, iR s)
  have h7 : records m ρ K ⊢ reached EX (barCell (nb s c)) 0 := reached_at m ρ K (nb s c, 0)
  have h8 := reached_at m ρ K (nb s c, iR (!s))
  rw [kcell_send] at h1 h5
  rw [kcell_recv] at h2 h4 h6 h8
  unfold shared
  iintro #H
  isplitr; · iapply h1; iexact H
  isplitr; · iapply h2; iexact H
  isplitr; · iapply h3; iexact H
  isplitr; · iapply h4; iexact H
  isplitr; · iapply h5; iexact H
  isplitr; · iapply h6; iexact H
  isplitr; · iapply h7; iexact H
  iapply h8; iexact H

/-- The tokens of side `s` a device pays with. -/
def pays (s : Bool) (c : Dev nD) : sProp 𝕄 :=
  iprop(dutyTok EX (barCell (nb s c)) 0 (!s) ∗ dutyTok EX (sendCell s c) 0 s ∗ dutyTok EX (recvCell (!s) (nb s c)) 0 (!s))

theorem ready_intro (K : Dev nD × Fin 5 → ℕ) (c : Dev nD) :
    iprop(records m ρ K ∗ (bigSep Finset.univ fun k => atPos EX (kcell (c, k)) 0 ∅ 0) ∗ pays true c ∗ pays false c) ⊢ ready m ρ c := by
  rw [bigSep_five]
  unfold ready ghost lin pays
  iintro ⟨#HR, ⟨Ha0, Ha1, Ha2, Ha3, Ha4⟩, ⟨HtB, HtS, HtV⟩, ⟨HfB, HfS, HfV⟩⟩
  iexists K
  isplitr
  · isplitr; · iapply (inv_at m ρ K (c, 0)); iexact HR
    isplitr; · iapply (shared_intro m ρ K true c); iexact HR
    iapply (shared_intro m ρ K false c); iexact HR
  isplitl [Ha0]; · iexact Ha0
  isplitl [Ha1 Ha3 HtB HtS HtV]
  · isplitl [Ha1]; · iexact Ha1
    isplitl [Ha3]; · iexact Ha3
    isplitl [HtB]; · iexact HtB
    isplitl [HtV] <;> iassumption
  · isplitl [Ha2]; · iexact Ha2
    isplitl [Ha4]; · iexact Ha4
    isplitl [HfB]; · iexact HfB
    isplitl [HfV] <;> iassumption

/-- The tokens change hands along the line: a barrier's and a receive cell's go to the device that pays them. -/
theorem toks_move :
    (bigSep Finset.univ fun c : Dev nD => iprop(tok true c ∗ tok false c) : sProp 𝕄)
      ⊢ bigSep Finset.univ fun c : Dev nD => iprop(pays true c ∗ pays false c) := by
  unfold tok pays
  simp only [bigSep_sep']
  rw [bigSep_univ_equiv (step false) (fun c : Dev nD => (dutyTok EX (barCell c) 0 true : sProp 𝕄)),
    bigSep_univ_equiv (step true) (fun c : Dev nD => (dutyTok EX (barCell c) 0 false : sProp 𝕄)),
    bigSep_univ_equiv (step false) (fun c : Dev nD => (dutyTok EX (recvCell true c) 0 true : sProp 𝕄)),
    bigSep_univ_equiv (step true) (fun c : Dev nD => (dutyTok EX (recvCell false c) 0 false : sProp 𝕄))]
  iintro ⟨⟨H1, H2, H3⟩, H4, H5, H6⟩
  isplitl [H4 H2 H6]
  · isplitl [H4]; · iexact H4
    isplitl [H2]; · iexact H2
    iexact H6
  · isplitl [H1]; · iexact H1
    isplitl [H5]; · iexact H5
    iexact H3

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out :
    (bigSep Finset.univ fun c : Dev nD => iprop((bigSep Finset.univ fun k => iprop(∃ κ : ℕ, cellInv EX (sched m ρ) κ (kcell (c, k))))
          ∗ (bigSep Finset.univ fun k => iprop(atPos EX (kcell (c, k)) 0 ∅ 0 ∗ reached EX (kcell (c, k)) 0)) ∗ tok true c ∗ tok false c) : sProp 𝕄)
      ⊢ bigSep Finset.univ (ready m ρ) := by
  rw [bigSep_sep', bigSep_sep', ← bigSep_univ_prod (fun ck : Dev nD × Fin 5 => iprop(∃ κ : ℕ, cellInv EX (sched m ρ) κ (kcell ck))),
    bigSep_congr (s := Finset.univ) (fun (c : Dev nD) _ => bigSep_sep' Finset.univ (fun k : Fin 5 => (atPos EX (kcell (c, k)) 0 ∅ 0 : sProp 𝕄)) (fun k => reached EX (kcell (c, k)) 0)),
    bigSep_sep', ← bigSep_univ_prod (fun ck : Dev nD × Fin 5 => (reached EX (kcell ck) 0 : sProp 𝕄))]
  iintro ⟨HI, ⟨Hat, #HR⟩, Htok⟩
  ihave HK := (BI.bigSep_exists_pi Finset.univ (fun (ck : Dev nD × Fin 5) (κ : ℕ) => (cellInv EX (sched m ρ) κ (kcell ck) : sProp 𝕄))) $$ HI
  icases HK with ⟨%K, #HI⟩
  ihave Htk := (toks_move (F := F)) $$ Htok
  iapply (with_records (R := records m ρ K) fun c _ => ready_intro m ρ K c)
  isplitr
  · unfold records; isplitl; · iexact HI
    iexact HR
  · iapply (Entails.of_eq (bigSep_sep' Finset.univ (fun c : Dev nD => bigSep Finset.univ fun k : Fin 5 => (atPos EX (kcell (c, k)) 0 ∅ 0 : sProp 𝕄))
      (fun c => iprop(pays true c ∗ pays false c))).symm)
    isplitl [Hat]; · iexact Hat
    iexact Htk

/-- The step all devices take together before their bodies start. -/
theorem set_up : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ready m ρ) :=
  ((bigSep_mono fun c _ => cells_alloc m ρ c).trans (bigSep_fupd _ _)).trans (BI.fupd_mono (share_out m ρ))

/-! ## The credit of the launch -/

theorem bar_inj {a b : Dev nD} (h : barCell a = barCell b) : a = b := congrArg (fun g : GSem nD τ sig => g.1.1) h
theorem recv_cell_inj {s s' : Bool} {a b : Dev nD} (h : recvCell s a = recvCell s' b) : s = s' ∧ a = b :=
  ⟨recv_inj (congrArg Prod.snd h), congrArg (fun g : GSem nD τ sig => g.1.1) h⟩

theorem one_nb (s : Bool) (c : Dev nD) : one (!s) (nb s c) = one s c := by unfold one; exact if_congr (has_nb s c) rfl rfl
theorem amt_nb (s : Bool) (c : Dev nD) : amt (!s) (nb s c) = amt s c := by unfold amt; exact if_congr (has_nb s c) rfl rfl

theorem owB_bar (s : Bool) (d c : Dev nD) : owB s d (barCell c) () = if d = nb (!s) c then one (!s) c else 0 := by
  unfold owB; rw [tallyAt_apply]
  by_cases h : d = nb (!s) c
  · subst h; rw [nb_nb' s c, if_pos ⟨rfl, rfl⟩, if_pos rfl]
    have := one_nb (!s) c; rwa [Bool.not_not] at this
  · rw [if_neg h, if_neg fun h' => h (by rw [bar_inj h'.1, nb_nb])]
theorem owB_recv (s s' : Bool) (d c : Dev nD) : owB s d (recvCell s' c) () = 0 := by
  unfold owB; rw [tallyAt_apply]; exact if_neg fun h => recv_ne_bar s' (congrArg Prod.snd h.1)
theorem owR_bar (s : Bool) (d c : Dev nD) : owR s d (barCell c) () = 0 := by
  unfold owR; rw [tallyAt_apply]; exact if_neg fun h => recv_ne_bar _ (congrArg Prod.snd h.1).symm
theorem owR_recv (s : Bool) (d c : Dev nD) : owR s d (recvCell (!s) c) () = if d = nb (!s) c then amt (!s) c else 0 := by
  unfold owR; rw [tallyAt_apply]
  by_cases h : d = nb (!s) c
  · subst h; rw [nb_nb' s c, if_pos ⟨rfl, rfl⟩, if_pos rfl]
    have := amt_nb (!s) c; rwa [Bool.not_not] at this
  · rw [if_neg h, if_neg fun h' => h (by rw [(recv_cell_inj h'.1).2, nb_nb])]
theorem owR_recv' (s : Bool) (d c : Dev nD) : owR s d (recvCell s c) () = 0 := by
  unfold owR; rw [tallyAt_apply]
  exact if_neg fun h => by have := (recv_cell_inj h.1).1; cases s <;> cases this

theorem O₀_apply (d : Dev nD) (g : GSem nD τ sig) (u : Unit) :
    O₀ d g u = owR false d g u + owR true d g u + owB false d g u + owB true d g u := by
  unfold O₀; rw [Pi.add_apply, Finsupp.add_apply, Pi.add_apply, Finsupp.add_apply, Pi.add_apply, Finsupp.add_apply]

theorem owed_bar (d c : Dev nD) : O₀ d (barCell c) () = (if d = nb true c then one true c else 0) + (if d = nb false c then one false c else 0) := by
  rw [O₀_apply, owR_bar, owR_bar, owB_bar, owB_bar, Nat.add_zero, Nat.zero_add]; rfl
theorem owed_recv (s : Bool) (d c : Dev nD) : O₀ d (recvCell s c) () = if d = nb s c then amt s c else 0 := by
  rw [O₀_apply, owB_recv, owB_recv]
  cases s
  · rw [owR_recv' false]; have := owR_recv true d c; simp only [Bool.not_true] at this; rw [this]; simp only [Nat.zero_add, Nat.add_zero]
  · rw [owR_recv' true]; have := owR_recv false d c; simp only [Bool.not_false] at this; rw [this]; simp only [Nat.add_zero]

theorem launch_bar (c : Dev nD) :
    tallyOn (barCell c) (launchCredit (Pipeline.owing O₀) 0 (barCell c)) = (tallyAt (barCell c) () (one true c + one false c) : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb true c) fun _ => one true c, Finset.sum_ite_eq' Finset.univ (nb false c) fun _ => one false c,
    if_pos (Finset.mem_univ _), if_pos (Finset.mem_univ _)]

theorem launch_recv (s : Bool) (c : Dev nD) :
    tallyOn (recvCell s c) (launchCredit (Pipeline.owing O₀) 0 (recvCell s c)) = (tallyAt (recvCell s c) () (amt s c) : CellTallies nD τ sig Unit) := by
  unfold tallyAt; refine congrArg _ (Finsupp.ext fun u => ?_); cases u
  rw [Pipeline.launchCredit_owing, Finsupp.single_eq_same, Finset.sum_congr rfl fun d _ => owed_recv s d c,
    Finset.sum_ite_eq' Finset.univ (nb s c) fun _ => amt s c, if_pos (Finset.mem_univ _)]

/-- The launch's credit for a device covers its waits. -/
theorem creds (c : Dev nD) : (Pipeline.launchCred O₀ c : sProp 𝕄) ⊢ credits c := by
  unfold Pipeline.launchCred credits
  have hsub : (insert (SemLoc.reg barS) (insert (SemLoc.dma (recvS true)) {SemLoc.dma (recvS false)}) : Finset (SemLoc sig)) ⊆ Finset.univ :=
    Finset.subset_univ _
  refine (bigSep_subset hsub).trans ?_
  rw [bigSep_insert (by decide), bigSep_insert (by decide), bigSep_singleton]
  have h0 := launch_bar c
  have h1 := launch_recv true c
  have h2 := launch_recv false c
  rw [h0, h1, h2, ← tallyAt_add]
  exact sep_mono_left (cred_add _ _).1

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m ρ c)
      ⊢ |={Set.univ}=> iprop(start m ρ c ∗ emp) := by
  iintro ⟨-, Hlev, Hcr, -, HG⟩
  ihave Hc := (creds (F := F) c) $$ Hcr
  imodintro
  unfold start ready
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scopedRest0_eq]
  unfold before₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₀ m ρ c from rfl, scopedRest0_eq, ownSems0_eq, unscopedSems0_eq]
  unfold after₀ zeros
  iintro ⟨Hr, ⟨⟨H1, H3⟩, H2, H4⟩, H0⟩
  isplitl [H0]; · iexact H0
  isplitl [H1 H2 H3 H4]
  · isplitl [H1]; · iexact H1
    isplitl [H2]; · iexact H2
    isplitl [H3] <;> iassumption
  iexists (kvFull m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What array `w` of device `c` holds at the end. -/
def finalA (c : Dev nD) (w : Fin cfg0.W) : Buf (Elt F) ((cfg0.win w).arr.view.loc (c : Thread nD τ)) := (dats m ρ 0 c).arrAt w cfg0.N

/-- Every array of every device holds its final contents. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero, over any float values, every fair run of the sixteen devices ends, with all
    arrays at their final contents and all counters at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ready m ρ) (u₀ := u₀)
    (hu₀ := by
      unfold u₀
      iintro Hu
      ihave H := (ownU_pair _ _) $$ Hu
      icases H with ⟨HP, HX⟩
      imod (fund_line m ρ) $$ HX with HG
      imodintro
      isplitl [HP] <;> iassumption)
    (hglob := set_up m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array ends as it began. -/
theorem final_in (c : Dev nD) (w : Fin cfg0.W) (hw : (cfg0.win w).isOut = false) : finalA m ρ c w = m ((cfg0.win w).arr.view.loc (c : Thread nD τ)) :=
  (dats (F := F) m ρ 0 c).arrAt_in w hw _

end Cert.K
-- ==== Proof.Frames.lean ====
/-
# The frames

Each program runs to its end from any memory, leaves its arguments as they were and ends with every counter at zero. The
kernel's run is proved once over any float values; the printed kernel's, at machine floats, is that run, since the two
printed texts differ only in the named mask constant.
-/
module

public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Defs

@[expose] public section

noncomputable section

namespace Cert.K

open Idealize.ShloMosaic Idealize.SL.Sem

/-- The named mask at machine floats is its own word. -/
@[reducible] def asBits : Named Bits := ⟨fun _ _ φ b => FloatOps.ofBits φ b⟩

attribute [local instance] Cert.Kernel.Gen.facts Cert.KernelIdeal.Gen.facts Cert.ReferenceIdeal.Gen.facts

section
variable {F : FTy → Type} [FloatOps F] [Named F]

/-- Over any float values, the kernel runs, its arguments end unchanged and the counters end at zero. -/
theorem frame_any (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run _ _ _).mono (fun _ h => ⟨fun c => ⟨(h.1 c (0 : Fin 6)).trans (final_in m ρ c (0 : Fin 6) rfl), (h.1 c (1 : Fin 6)).trans (final_in m ρ c (1 : Fin 6) rfl),
    (h.1 c (2 : Fin 6)).trans (final_in m ρ c (2 : Fin 6) rfl), (h.1 c (3 : Fin 6)).trans (final_in m ρ c (3 : Fin 6) rfl),
    (h.1 c (4 : Fin 6)).trans (final_in m ρ c (4 : Fin 6) rfl)⟩, h.2⟩) (run_main m ρ)
end

attribute [local instance] asBits

/-- The two prints' function tables agree at machine floats. -/
theorem defs0_eq : Cert.KernelIdeal.defs₀ (F := Bits) = Cert.Kernel.defs₀ (F := Bits) := by
  unfold Cert.KernelIdeal.defs₀ Cert.Kernel.defs₀
  refine congrArg Defs.onTc ?_
  funext l a
  match l, a with
  | ⟨0, _⟩, (t, s) => rfl
  | ⟨n + 1, h⟩, _ => exact absurd h (Nat.not_lt.2 (Nat.le_add_left _ _))

theorem defs_eq : Cert.KernelIdeal.defs (F := Bits) = Cert.Kernel.defs (F := Bits) :=
  congrArg (Pipeline.defs (Cert.Kernel.pcfgs (F := Bits))) defs0_eq

/-- The frame of the printed kernel. -/
theorem frame_kernel : Cert.quiescent_Kernel := by
  intro m g _
  rw [← defs_eq]
  exact frame_any (F := Bits) m g

/-- The frame of the kernel over the extended reals. -/
theorem frame_ideal : Cert.quiescent_KernelIdeal := fun m g _ => frame_any (F := Ideal) m g

/-- The frame of the reference, which has no semaphore. -/
theorem frame_reference : Cert.quiescent_ReferenceIdeal := fun m g _ =>
  (θ_run _ _ _).mono (fun _ h => ⟨fun c => (h c).2, funext fun x => by
    rcases x with ⟨_, sm⟩
    rcases sm with sm | sm <;> exact (IsEmpty.false sm).elim⟩) (Cert.ReferenceIdeal.Value.run (F := Ideal) m g)

/-- The mask's word is the printed word wherever it is named. -/
theorem mask_named : Cert.preserves_Kernel_KernelIdeal := IdealRules.named_const.statement Cert.KernelIdeal.κ "mask" .f32 0xCE6E6B28#32 ⊥ rfl

end Cert.K

end
-- ==== Proof.Attn.lean ====
module

public import proofs.«01_k».proof.Proof.Compute
public import Idealize.ShloMosaic.Lib.Pointwise

@[expose] public section

/-! # A block of 128 query rows

  The four stored blocks are one computation at different rows of the queries and different windows of the buffer: `expo`
  are the exponentials of one head's masked scores, `head` divides the weighted sum of the values by the sum of the weights,
  `block` puts the four heads side by side and applies the output weights. -/

noncomputable section

namespace Cert.K

open Cert.KernelIdeal Cert.KernelIdeal.Gen
open Idealize.ShloMosaic Idealize.ShloMosaic.TcCoe

variable {F : FTy → Type} [FloatOps F] [Named F]

/-- The exponentials of the masked scores of one head: 128 query rows against 384 key rows. -/
def expo {oq ok : Fin 2 → ℕ} (hq : S256x256.Slices oq S128x64) (hk : S384x512.Slices ok S384x64) (q : FVec F S256x256 .bf16)
    (mask : IVec S128x384 1) (kv : FVec F S384x512 .bf16) : FVec F S128x384 .f32 :=
  exp (select mask (matmul dot_S128x64_S384x64_S128x384_1_1_0_0_n_n none (extractStridedSlice S128x64 oq q hq) (extractStridedSlice S384x64 ok kv hk)
    (constant S128x384 .f32 0x00000000#32)) (broadcast S128x384 (Named.named κ "mask" 0xCE6E6B28#32)))

/-- One head's context: the weighted sum of the values over the sum of the weights. -/
def head {ov : Fin 2 → ℕ} (hv : S384x512.Slices ov S384x64) (kv : FVec F S384x512 .bf16) (w : FVec F S128x384 .f32) : FVec F S128x64 .f32 :=
  divf (matmul dot_S128x384_S384x64_S128x64_1_0_0_1_n_n none (truncf .bf16 w bitsLt_bf16_f32) (extractStridedSlice S384x64 ov kv hv) (constant S128x64 .f32 0x00000000#32))
    (broadcastTo S128x64 (shapeCast S128x1 (multiReduction .add [1] S128 w 0x00000000#32 reduces_S128x384_S128 (.inl rfl) rfl) shapeCasts_S128_S128x1) broadcasts_S128x1_S128x64)

/-- Four heads side by side. -/
def four (a b c d : FVec F S128x64 .f32) : FVec F S128x256 .f32 :=
  concatenate S128x256 1 [⟨S128x64, a⟩, ⟨S128x64, b⟩, ⟨S128x64, c⟩, ⟨S128x64, d⟩] concatenates_S128x64_S128x64_S128x64_S128x64_S128x256_d1

/-- The output weights applied to the context. -/
def block (wo : FVec F S256x512 .bf16) (ctx : FVec F S128x256 .f32) : FVec F S1x128x512 .f32 :=
  shapeCast S1x128x512 (matmul dot_S128x256_S256x512_S128x512_1_0_0_1_n_n none (truncf .bf16 ctx bitsLt_bf16_f32) wo (constant S128x512 .f32 0x00000000#32)) shapeCasts_S128x512_S1x128x512

/-- The context of the upper 128 query rows. -/
def ctxU (q : FVec F S256x256 .bf16) (mask : IVec S128x384 1) (kv : FVec F S384x512 .bf16) : FVec F S128x256 .f32 :=
  four (head slices_S384x512_o0_256_S384x64 kv (expo slices_S256x256_o0_0_S128x64 slices_S384x512_o0_0_S384x64 q mask kv))
    (head slices_S384x512_o0_320_S384x64 kv (expo slices_S256x256_o0_64_S128x64 slices_S384x512_o0_64_S384x64 q mask kv))
    (head slices_S384x512_o0_384_S384x64 kv (expo slices_S256x256_o0_128_S128x64 slices_S384x512_o0_128_S384x64 q mask kv))
    (head slices_S384x512_o0_448_S384x64 kv (expo slices_S256x256_o0_192_S128x64 slices_S384x512_o0_192_S384x64 q mask kv))

/-- The context of the lower 128 query rows. -/
def ctxL (q : FVec F S256x256 .bf16) (mask : IVec S128x384 1) (kv : FVec F S384x512 .bf16) : FVec F S128x256 .f32 :=
  four (head slices_S384x512_o0_256_S384x64 kv (expo slices_S256x256_o128_0_S128x64 slices_S384x512_o0_0_S384x64 q mask kv))
    (head slices_S384x512_o0_320_S384x64 kv (expo slices_S256x256_o128_64_S128x64 slices_S384x512_o0_64_S384x64 q mask kv))
    (head slices_S384x512_o0_384_S384x64 kv (expo slices_S256x256_o128_128_S128x64 slices_S384x512_o0_128_S384x64 q mask kv))
    (head slices_S384x512_o0_448_S384x64 kv (expo slices_S256x256_o128_192_S128x64 slices_S384x512_o0_192_S384x64 q mask kv))

variable (m : (ℓ : Loc nD τ sig) → Buf (Elt F) ℓ) (ρ : Dev nD → PrngReg)

/-- A window of the buffer as a matrix. -/
def flat (w : Vec F S1x384x512 .bf16) : FVec F S384x512 .bf16 := shapeCast S384x512 w shapeCasts_S1x384x512_S384x512

theorem blkA_eq (c : Dev nD) : blkA m ρ c = block (wob m ρ c) (ctxU (qa m ρ c) (maskA c) (flat (w00 m ρ c))) := rfl
theorem blkB_eq (c : Dev nD) : blkB m ρ c = block (wob m ρ c) (ctxU (qb m ρ c) (maskA c) (flat (w10 m ρ c))) := rfl
theorem blkC_eq (c : Dev nD) : blkC m ρ c = block (wob m ρ c) (ctxL (qa m ρ c) (maskB c) (flat (w01 m ρ c))) := rfl
theorem blkD_eq (c : Dev nD) : blkD m ρ c = block (wob m ρ c) (ctxL (qb m ρ c) (maskB c) (flat (w11 m ρ c))) := rfl

/-! ## Read at an index -/

/-- The element `(a, b)` of a matrix; every coordinate is taken within its axis. -/
def at2 {α : Type} {n₀ n₁ : ℕ} [NeZero n₀] [NeZero n₁] (v : (⟨2, ![n₀, n₁]⟩ : Shape).Idx → α) (a b : ℕ) : α := v (ix2 (Fin.ofNat n₀ a) (Fin.ofNat n₁ b))

theorem at2_of {α : Type} {n₀ n₁ : ℕ} [NeZero n₀] [NeZero n₁] (v : (⟨2, ![n₀, n₁]⟩ : Shape).Idx → α) (i : Fin n₀) (j : Fin n₁) {a b : ℕ}
    (ha : i.val = a) (hb : j.val = b) : v (ix2 i j) = at2 v a b := by
  subst ha hb
  unfold at2
  congr 2 <;> exact Fin.ext (Nat.mod_eq_of_lt (Fin.isLt _)).symm

/-- The mask constant stands for minus infinity. -/
theorem mask_const : (Named.named κ "mask" 0xCE6E6B28#32 : Ideal .f32) = ⊥ := rfl

/-- The weight of head `h` that row `r0 + r` of the queries gives row `t` of the window. -/
def wt (q : FVec Ideal S256x256 .bf16) (mask : IVec S128x384 1) (kv : FVec Ideal S384x512 .bf16) (r0 h : ℕ) (r : Fin 128) (t : Fin 384) : EReal :=
  Ideal.exp (Scalar.select (mask (ix2 r t)) (∑ x : Fin 64, at2 q (r0 + r) (64 * h + x) * at2 kv t (64 * h + x)) ⊥)

/-- Column `d` of the context of head `h` at row `r0 + r` of the queries. -/
def cx (q : FVec Ideal S256x256 .bf16) (mask : IVec S128x384 1) (kv : FVec Ideal S384x512 .bf16) (r0 h : ℕ) (r : Fin 128) (d : ℕ) : EReal :=
  Ideal.div (∑ t : Fin 384, wt q mask kv r0 h r t * at2 kv t (256 + 64 * h + d)) (∑ t : Fin 384, wt q mask kv r0 h r t)

theorem expo_at {oq ok : Fin 2 → ℕ} (hq : S256x256.Slices oq S128x64) (hk : S384x512.Slices ok S384x64) (q : FVec Ideal S256x256 .bf16)
    (mask : IVec S128x384 1) (kv : FVec Ideal S384x512 .bf16) (r : Fin 128) (t : Fin 384) {r0 h : ℕ}
    (e0 : oq 0 = r0) (e1 : oq 1 = 64 * h) (e2 : ok 0 = 0) (e3 : ok 1 = 64 * h) :
    expo hq hk q mask kv (ix2 r t) = wt q mask kv r0 h r t := by
  pointwise [expo]
  unfold wt
  rw [mask_const]
  refine congrArg Ideal.exp (congrArg (fun z => Scalar.select _ z _) (Finset.sum_congr rfl fun x _ => ?_))
  refine congrArg₂ (fun y z : EReal => y * z) (at2_of q _ _ ?_ ?_) (at2_of kv _ _ ?_ ?_)
  · exact congrArg (· + r.val) e0
  · exact congrArg (· + x.val) e1
  · exact (congrArg (· + t.val) e2).trans (Nat.zero_add _)
  · exact congrArg (· + x.val) e3

theorem head_at {ov : Fin 2 → ℕ} (hv : S384x512.Slices ov S384x64) (kv : FVec Ideal S384x512 .bf16) (w : FVec Ideal S128x384 .f32) (r : Fin 128) (d : Fin 64) {h : ℕ}
    (e0 : ov 0 = 0) (e1 : ov 1 = 256 + 64 * h) :
    head hv kv w (ix2 r d) = Ideal.div (∑ t : Fin 384, w (ix2 r t) * at2 kv t (256 + 64 * h + d)) (∑ t, w (ix2 r t)) := by
  pointwise [head]
  refine congrArg (fun z => Ideal.div z _) (Finset.sum_congr rfl fun t _ => ?_)
  refine congrArg (fun z : EReal => w (ix2 r t) * z) (at2_of kv _ _ ?_ ?_)
  · exact (congrArg (· + t.val) e0).trans (Nat.zero_add _)
  · exact congrArg (· + d.val) e1

/-- One head, from its weights on. -/
theorem head_expo_at {oq ok ov : Fin 2 → ℕ} (hq : S256x256.Slices oq S128x64) (hk : S384x512.Slices ok S384x64) (hv : S384x512.Slices ov S384x64)
    (q : FVec Ideal S256x256 .bf16) (mask : IVec S128x384 1) (kv : FVec Ideal S384x512 .bf16) (r : Fin 128) (d : Fin 64) {r0 h : ℕ}
    (e0 : oq 0 = r0) (e1 : oq 1 = 64 * h) (e2 : ok 0 = 0) (e3 : ok 1 = 64 * h) (e4 : ov 0 = 0) (e5 : ov 1 = 256 + 64 * h) :
    head hv kv (expo hq hk q mask kv) (ix2 r d) = cx q mask kv r0 h r d := by
  rw [head_at hv kv _ r d e4 e5]
  simp only [expo_at hq hk q mask kv r _ e0 e1 e2 e3]
  rfl

theorem four_at (a b c d : FVec Ideal S128x64 .f32) (r : Fin 128) (f : ℕ → ℕ → EReal)
    (ha : ∀ x : Fin 64, a (ix2 r x) = f 0 x) (hb : ∀ x : Fin 64, b (ix2 r x) = f 1 x) (hc : ∀ x : Fin 64, c (ix2 r x) = f 2 x)
    (hd : ∀ x : Fin 64, d (ix2 r x) = f 3 x) (j : Fin 256) : four a b c d (ix2 r j) = f (j.val / 64) (j.val % 64) := by
  pointwise [four]
  have hj := j.isLt
  split
  · rw [ha, show j.val / 64 = 0 by omega, show j.val % 64 = j.val by omega]
  · split
    · rw [hb, show j.val / 64 = 1 by omega, show j.val % 64 = j.val - 64 by omega]
    · split
      · rw [hc, show j.val / 64 = 2 by omega, show j.val % 64 = j.val - 64 - 64 by omega]
      · rw [hd, show j.val / 64 = 3 by omega, show j.val % 64 = j.val - 64 - 64 - 64 by omega]

theorem ctxU_at (q : FVec Ideal S256x256 .bf16) (mask : IVec S128x384 1) (kv : FVec Ideal S384x512 .bf16) (r : Fin 128) (j : Fin 256) :
    ctxU q mask kv (ix2 r j) = cx q mask kv 0 (j.val / 64) r (j.val % 64) :=
  four_at _ _ _ _ r (fun h d => cx q mask kv 0 h r d) (fun x => head_expo_at _ _ _ q mask kv r x rfl rfl rfl rfl rfl rfl)
    (fun x => head_expo_at _ _ _ q mask kv r x rfl rfl rfl rfl rfl rfl) (fun x => head_expo_at _ _ _ q mask kv r x rfl rfl rfl rfl rfl rfl)
    (fun x => head_expo_at _ _ _ q mask kv r x rfl rfl rfl rfl rfl rfl) j

theorem ctxL_at (q : FVec Ideal S256x256 .bf16) (mask : IVec S128x384 1) (kv : FVec Ideal S384x512 .bf16) (r : Fin 128) (j : Fin 256) :
    ctxL q mask kv (ix2 r j) = cx q mask kv 128 (j.val / 64) r (j.val % 64) :=
  four_at _ _ _ _ r (fun h d => cx q mask kv 128 h r d) (fun x => head_expo_at _ _ _ q mask kv r x rfl rfl rfl rfl rfl rfl)
    (fun x => head_expo_at _ _ _ q mask kv r x rfl rfl rfl rfl rfl rfl) (fun x => head_expo_at _ _ _ q mask kv r x rfl rfl rfl rfl rfl rfl)
    (fun x => head_expo_at _ _ _ q mask kv r x rfl rfl rfl rfl rfl rfl) j

theorem block_at (wo : FVec Ideal S256x512 .bf16) (ctx : FVec Ideal S128x256 .f32) (r : Fin 128) (n : Fin 512) :
    block wo ctx (ix3 0 r n) = ∑ j, ctx (ix2 r j) * wo (ix2 j n) := by
  pointwise [block]

end Cert.K
end
-- ==== Proof.Inputs.lean ====
module

public import proofs.«01_k».proof.Proof.Run
public import proofs.«01_k».proof.Proof.Attn
public import Idealize.ShloMosaic.Lib.Pipeline.ValueKit
public import Idealize.ShloMosaic.Lib.LayoutAt

@[expose] public section

noncomputable section

namespace Cert.K

open Cert.KernelIdeal Cert.KernelIdeal.Gen
open Idealize.ShloMosaic Idealize.ShloMosaic.TcCoe
open Idealize.ShloMosaic.Pipeline (Dat Cfg Window)

variable {F : FTy → Type} [FloatOps F] [Named F]
variable (m : (ℓ : Loc nD τ sig) → Buf (Elt F) ℓ) (ρ : Dev nD → PrngReg)

/-! ## The staged blocks are the arguments -/

theorem xStg_eq (c : Dev nD) : xStg m ρ c = m ((c : Thread nD τ).loc main_arg0) :=
  Memref.read_access_unit_zero (Elt F) main_arg0 (funext fun a => by fin_cases a <;> decide) (fun a => by fin_cases a <;> decide) _
theorem wqStg_eq (c : Dev nD) : wqStg m ρ c = m ((c : Thread nD τ).loc main_arg1) :=
  Memref.read_access_unit_zero (Elt F) main_arg1 (funext fun a => by fin_cases a <;> decide) (fun a => by fin_cases a <;> decide) _
theorem kStg_eq (c : Dev nD) : kStg m ρ c = m ((c : Thread nD τ).loc main_arg2) :=
  Memref.read_access_unit_zero (Elt F) main_arg2 (funext fun a => by fin_cases a <;> decide) (fun a => by fin_cases a <;> decide) _
theorem vStg_eq (c : Dev nD) : vStg m ρ c = m ((c : Thread nD τ).loc main_arg3) :=
  Memref.read_access_unit_zero (Elt F) main_arg3 (funext fun a => by fin_cases a <;> decide) (fun a => by fin_cases a <;> decide) _
theorem woStg_eq (c : Dev nD) : woStg m ρ c = m ((c : Thread nD τ).loc main_arg4) :=
  Memref.read_access_unit_zero (Elt F) main_arg4 (funext fun a => by fin_cases a <;> decide) (fun a => by fin_cases a <;> decide) _

/-- The output array ends holding the device's output block. -/
theorem final_out (c : Dev nD) : finalA m ρ c (5 : Fin 6) = outFull m ρ c := by
  refine (dats (F := F) m ρ 0 c).arrAt_eq_of_after_last 5 t0_0 (by decide +kernel) _ fun j => ?_
  rfl

/-! ## The blocks the body loads, at an index -/

theorem x0_at (c : Dev nD) (i : Fin 256) (t : Fin 512) : x0 m ρ c (ix3 0 i t) = m ((c : Thread nD τ).loc main_arg0) (ix3 0 i t) := by
  rw [← xStg_eq m ρ c]
  refine congrArg (xStg m ρ c) (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem x1_at (c : Dev nD) (i : Fin 256) (t : Fin 512) : x1 m ρ c (ix3 0 i t) = m ((c : Thread nD τ).loc main_arg0) (ix3 1 i t) := by
  rw [← xStg_eq m ρ c]
  refine congrArg (xStg m ρ c) (funext fun a => Fin.ext ?_)
  match a with
  | ⟨0, _⟩ => rfl
  | ⟨1, _⟩ => exact (Nat.zero_add _).trans (Nat.one_mul _)
  | ⟨2, _⟩ => exact (Nat.zero_add _).trans (Nat.one_mul _)

/-- Reading a window of 384 rows of the buffer, from row `l` of batch entry `b` on. -/
theorem window_at (c : Dev nD) (b l : ℕ) (inb : ∀ a, (![b, l, 0] : Fin 3 → ℕ) a + S1x384x512.size a ≤ S2x512x512.size a) (t : Fin 384) (e : Fin 512) :
    (kvM : Memref sig .tc .vmem S2x512x512 .bf16).view.readAt (Elt F) (Rect.unit (s := S2x512x512) ![b, l, 0] S1x384x512.size inb).toLoadRect (kvFull m ρ c) (ix3 0 t e)
      = kvAt m ρ c b (l + t) e := by
  show kvAt m ρ c (b + 1 * 0) (l + 1 * t.val) (0 + 1 * e.val) = _
  rw [Nat.mul_zero, Nat.add_zero, Nat.one_mul, Nat.one_mul, Nat.zero_add]

theorem flat_at (w : Vec F S1x384x512 .bf16) (t : Fin 384) (e : Fin 512) : flat w (ix2 t e) = w (ix3 0 t e) := by
  pointwise [flat]

theorem pay3_at (v : Vec F S2x256x4x64 .bf16) (b : Fin 2) (r j : Fin 256) :
    k0_pay3 v (ix3 b r j) = v (ix4 b r ⟨j.val / 64, by omega⟩ ⟨j.val % 64, by omega⟩) := by
  pointwise [k0_pay3]

theorem pay4_at (v : Vec F S2x256x4x64 .bf16) (b : Fin 2) (r j : Fin 256) :
    k0_pay4 v (ix3 b r j) = v (ix4 b r ⟨j.val / 64, by omega⟩ ⟨j.val % 64, by omega⟩) := by
  pointwise [k0_pay4]

/-- A device's own rows: keys in the first 256 columns, -/
theorem own_key (c : Dev nD) (b : Fin 2) (r : Fin 256) (h : Fin 4) (d : Fin 64) :
    own m ρ c b r (64 * h + d) = m ((c : Thread nD τ).loc main_arg2) (ix4 b r h d) := by
  unfold own
  rw [if_pos (by omega)]
  refine (at3_eq (n₀ := 2) (n₁ := 256) (n₂ := 256) _ (ix3 b r ⟨64 * h.val + d.val, by omega⟩) rfl rfl rfl).trans ?_
  rw [pay3_at, kStg_eq]
  congr 1
  congr 1 <;> apply Fin.ext <;> simp only <;> omega

/-- values in the last 256. -/
theorem own_val (c : Dev nD) (b : Fin 2) (r : Fin 256) (h : Fin 4) (d : Fin 64) :
    own m ρ c b r (256 + 64 * h + d) = m ((c : Thread nD τ).loc main_arg3) (ix4 b r h d) := by
  unfold own
  rw [if_neg (by omega)]
  refine (at3_eq (n₀ := 2) (n₁ := 256) (n₂ := 256) _ (ix3 b r ⟨64 * h.val + d.val, by omega⟩) rfl rfl (by show 64 * h.val + d.val = _; omega)).trans ?_
  rw [pay4_at, vStg_eq]
  congr 1
  congr 1 <;> apply Fin.ext <;> simp only <;> omega

/-- Where the buffer's row `l` stands for a row of the whole array, it is that row of its owner. -/
theorem kvAt_own (c : Dev nD) (b l j g : ℕ) (hg : g < 4096) (e : g + 128 = 256 * c.val + l) (hl : l < 512) :
    kvAt m ρ c b l j = own m ρ ⟨g / 256, show g / 256 < 16 by omega⟩ b (g % 256) j := by
  have hc : c.val < 16 := c.isLt
  unfold kvAt
  by_cases h1 : l < 128
  · have hh : has true c := by show 0 < c.val; omega
    rw [if_pos h1, if_pos hh]
    have hn : nb true c = ⟨g / 256, show g / 256 < 16 by omega⟩ := Fin.ext (by rw [show (nb true c).val = (c.val + 15) % 16 from rfl]; show _ = g / 256; omega)
    rw [hn, show l + 128 = g % 256 by omega]
  · rw [if_neg h1]
    by_cases h2 : l < 384
    · have hn : c = ⟨g / 256, show g / 256 < 16 by omega⟩ := Fin.ext (show c.val = g / 256 by omega)
      rw [if_pos h2, show l - 128 = g % 256 by omega, ← hn]
    · have hh : has false c := by show c.val < 15; omega
      have hn : nb false c = ⟨g / 256, show g / 256 < 16 by omega⟩ := Fin.ext (by rw [show (nb false c).val = (c.val + 1) % 16 from rfl]; show _ = g / 256; omega)
      rw [if_neg h2, if_pos hh, hn, show l - 384 = g % 256 by omega]

end Cert.K
end
-- ==== Proof.Soft.lean ====
module

public import Idealize.ShloMosaic.PureOps.Ideal

@[expose] public section

/-! # Softmax over a window

  The kernel divides a weighted sum over a window of 384 rows by the sum of the weights; the reference subtracts the row's
  largest score, divides every exponential by their sum over all 4096 keys and takes the weighted sum afterwards. With real
  scores where the query sees the key, and nothing elsewhere, the two agree for any values, infinite ones as well. -/

noncomputable section

namespace Cert.Soft

open Idealize.ShloMosaic

/-- A nonnegative real factor goes into a sum of extended reals. -/
theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

/-- A sum of reals is real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

variable (P : Fin 4096 → Prop) [DecidablePred P]

/-- A sum over the window is the sum over all keys of which only those in the window count. -/
theorem sum_window (s : ℕ) (F : Fin 384 → EReal) (G : Fin 4096 → EReal)
    (hin : ∀ t g, g.val + 128 = s + t.val → P g → F t = G g)
    (hout : ∀ t : Fin 384, (∀ g : Fin 4096, g.val + 128 = s + t.val → ¬ P g) → F t = 0)
    (hcov : ∀ g, P g → s ≤ g.val + 128 ∧ g.val + 128 < s + 384) :
    ∑ t, F t = ∑ g, if P g then G g else 0 := by
  rw [← Finset.sum_filter]
  symm
  refine Finset.sum_of_injOn (fun g => Fin.ofNat 384 (g.val + 128 - s)) ?_ (fun _ _ => Finset.mem_coe.mpr (Finset.mem_univ _)) ?_ ?_
  · intro g hg g' hg' e
    have h1 := hcov g (Finset.mem_filter.mp (Finset.mem_coe.mp hg)).2
    have h2 := hcov g' (Finset.mem_filter.mp (Finset.mem_coe.mp hg')).2
    have e' : (g.val + 128 - s) % 384 = (g'.val + 128 - s) % 384 := congrArg Fin.val e
    rw [Nat.mod_eq_of_lt (by omega), Nat.mod_eq_of_lt (by omega)] at e'
    exact Fin.ext (by omega)
  · intro t _ ht
    refine hout t fun g hg hP => ht ⟨g, Finset.mem_coe.mpr (Finset.mem_filter.mpr ⟨Finset.mem_univ g, hP⟩), Fin.ext ?_⟩
    show (g.val + 128 - s) % 384 = t.val
    have := t.isLt
    rw [Nat.mod_eq_of_lt (by omega)]; omega
  · intro g hg
    have hP := (Finset.mem_filter.mp hg).2
    have h1 := hcov g hP
    refine (hin _ g ?_ hP).symm
    show g.val + 128 = s + (g.val + 128 - s) % 384
    rw [Nat.mod_eq_of_lt (by omega)]; omega

variable (z : Fin 4096 → ℝ)

/-- The masked scores. -/
def sc (g : Fin 4096) : EReal := if P g then (z g : EReal) else ⊥
/-- Their exponentials. -/
def ex (g : Fin 4096) : ℝ := if P g then Real.exp (z g) else 0

theorem ex_nonneg (g : Fin 4096) : 0 ≤ ex P z g := by unfold ex; split <;> [exact (Real.exp_pos _).le; exact le_rfl]

/-- The largest score is real. -/
theorem top_real {i : Fin 4096} (hi : P i) : ∃ μ : ℝ, Finset.univ.fold max ⊥ (sc P z) = (μ : EReal) := by
  have h1 : Finset.univ.fold max ⊥ (sc P z) < ⊤ := by
    rw [Finset.fold_max_lt]
    refine ⟨bot_lt_top, fun g _ => ?_⟩
    unfold sc; split <;> [exact EReal.coe_lt_top _; exact bot_lt_top]
  have h2 : ⊥ < Finset.univ.fold max ⊥ (sc P z) := by
    rw [Finset.lt_fold_max]
    refine .inr ⟨i, Finset.mem_univ i, ?_⟩
    unfold sc; rw [if_pos hi]; exact EReal.bot_lt_coe _
  exact ⟨_, (EReal.coe_toReal h1.ne h2.ne').symm⟩

theorem shifted_eq (μ : ℝ) (g : Fin 4096) : Ideal.exp (sc P z g - (μ : EReal)) = ((ex P z g * Real.exp (-μ) : ℝ) : EReal) := by
  unfold sc ex
  split
  · rw [← EReal.coe_sub, Ideal.exp_coe, sub_eq_add_neg, Real.exp_add]
  · rw [EReal.bot_sub, Ideal.exp_bot, zero_mul, EReal.coe_zero]

/-- The kernel's quotient of sums over the window is the reference's sum of quotients over all keys. -/
theorem quotient {i : Fin 4096} (hi : P i) (s : ℕ) (V : Fin 4096 → EReal) (u v : Fin 384 → EReal)
    (hin : ∀ t g, g.val + 128 = s + t.val → P g → u t = Ideal.exp (z g : EReal) ∧ v t = V g)
    (hout : ∀ t : Fin 384, (∀ g : Fin 4096, g.val + 128 = s + t.val → ¬ P g) → u t = 0)
    (hcov : ∀ g, P g → s ≤ g.val + 128 ∧ g.val + 128 < s + 384) :
    Ideal.div (∑ t, u t * v t) (∑ t, u t)
      = ∑ g, V g * Ideal.div (Ideal.exp (sc P z g - Finset.univ.fold max ⊥ (sc P z)))
          (∑ g', Ideal.exp (sc P z g' - Finset.univ.fold max ⊥ (sc P z))) := by
  obtain ⟨μ, hμ⟩ := top_real P z hi
  rw [hμ]
  have hA : 0 < ∑ g, ex P z g :=
    Finset.sum_pos' (fun g _ => ex_nonneg P z g) ⟨i, Finset.mem_univ i, by unfold ex; rw [if_pos hi]; exact Real.exp_pos _⟩
  have h1 : ∑ t, u t = ((∑ g, ex P z g : ℝ) : EReal) := by
    rw [sum_window P s u (fun g => Ideal.exp (z g : EReal)) (fun t g e h => (hin t g e h).1) hout hcov, ← coe_sum]
    refine Finset.sum_congr rfl fun g _ => ?_
    unfold ex; split <;> [exact Ideal.exp_coe _; exact EReal.coe_zero.symm]
  have h2 : ∑ t, u t * v t = ∑ g, V g * ((ex P z g : ℝ) : EReal) := by
    rw [sum_window P s (fun t => u t * v t) (fun g => Ideal.exp (z g : EReal) * V g)
      (fun t g e h => by show u t * v t = _; rw [(hin t g e h).1, (hin t g e h).2])
      (fun t h => by show u t * v t = _; rw [hout t h, zero_mul]) hcov]
    refine Finset.sum_congr rfl fun g _ => ?_
    unfold ex; split
    · rw [Ideal.exp_coe, mul_comm]
    · rw [EReal.coe_zero, mul_zero]
  rw [h1, h2, Ideal.div_coe hA.ne', sum_mul_coe _ _ (by positivity)]
  refine Finset.sum_congr rfl fun g _ => ?_
  rw [shifted_eq, Finset.sum_congr rfl fun g' _ => shifted_eq P z μ g', coe_sum, ← Finset.sum_mul,
    Ideal.div_coe (mul_pos hA (Real.exp_pos _)).ne', mul_assoc, ← EReal.coe_mul, ← EReal.coe_mul]
  congr 2
  have := (Real.exp_pos (-μ)).ne'
  field_simp

end Cert.Soft
end
-- ==== Proof.Words.lean ====
module

public import Idealize.ShloMosaic.Lib.Pointwise

@[expose] public section

/-! # The mask words -/

namespace Cert.Words

open Idealize.ShloMosaic

theorem toInt_ofNat {n : ℕ} (h : n < 2 ^ 31) : (BitVec.ofNat 32 n).toInt = n := by
  rw [BitVec.toInt_eq_toNat_bmod, BitVec.toNat_ofNat, Int.bmod_def]; omega

/-- The signed comparisons of two words read as integers. -/
theorem sle_eq (x y : BitVec 32) : IntOp.cmpi .sle x y = if x.toInt ≤ y.toInt then 1#1 else 0#1 := by
  show BitVec.ofBool (x.sle y) = _
  rw [BitVec.sle_eq_decide]; split <;> simp [*]
theorem sge_eq (x y : BitVec 32) : IntOp.cmpi .sge x y = if y.toInt ≤ x.toInt then 1#1 else 0#1 := sle_eq y x
theorem slt_eq (x y : BitVec 32) : IntOp.cmpi .slt x y = if x.toInt < y.toInt then 1#1 else 0#1 := by
  show BitVec.ofBool (x.slt y) = _
  rw [BitVec.slt_eq_decide]; split <;> simp [*]

theorem andi_if (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- The distance of two row numbers. -/
theorem absi_sub {i g : ℕ} (hi : i < 4096) (hg : g < 4096) :
    (IntOp.absi (IntOp.subi (BitVec.ofNat 32 i) (BitVec.ofNat 32 g))).toInt = |(i : ℤ) - g| := by
  have e : (BitVec.ofNat 32 i - BitVec.ofNat 32 g).toInt = (i : ℤ) - g := by
    rw [BitVec.toInt_sub, toInt_ofNat (by omega), toInt_ofNat (by omega), Int.bmod_def]; omega
  show (if (BitVec.ofNat 32 i - BitVec.ofNat 32 g).msb then -(BitVec.ofNat 32 i - BitVec.ofNat 32 g) else BitVec.ofNat 32 i - BitVec.ofNat 32 g).toInt = _
  rw [BitVec.msb_eq_toInt, e]
  by_cases h : (i : ℤ) - g < 0
  · rw [decide_eq_true h, if_pos rfl, BitVec.toInt_neg, e, abs_of_neg h, Int.bmod_def]; omega
  · rw [decide_eq_false h, if_neg (by decide), e, abs_of_nonneg (by omega)]

theorem near_word {i g : ℕ} (hi : i < 4096) (hg : g < 4096) :
    IntOp.cmpi .sle (IntOp.absi (IntOp.subi (BitVec.ofNat 32 i) (BitVec.ofNat 32 g))) 128#32 = if i ≤ g + 128 ∧ g ≤ i + 128 then 1#1 else 0#1 := by
  rw [sle_eq, absi_sub hi hg]
  refine if_congr ?_ rfl rfl
  show |(i : ℤ) - g| ≤ 128 ↔ _
  rw [abs_le]; omega

/-- Whether row `r` of a block sees column `t` of its window, the window's first row being `128` rows before row `a` of the
    whole array. -/
theorem window_word {a r t : ℕ} {w : BitVec 32} (hw : w.toInt = (a : ℤ) - 128) (ha : a < 5000) (hr : r < 128) (ht : t < 384) :
    IntOp.andi (IntOp.andi (IntOp.andi (IntOp.cmpi .sge (BitVec.ofNat 32 t) (BitVec.ofNat 32 r))
      (IntOp.cmpi .sle (BitVec.ofNat 32 t) (IntOp.addi (BitVec.ofNat 32 r) 256#32)))
      (IntOp.cmpi .sge (IntOp.addi w (BitVec.ofNat 32 t)) 0#32)) (IntOp.cmpi .slt (IntOp.addi w (BitVec.ofNat 32 t)) 4096#32)
      = if r ≤ t ∧ t ≤ r + 256 ∧ 128 ≤ a + t ∧ a + t < 4096 + 128 then 1#1 else 0#1 := by
  have e : (IntOp.addi w (BitVec.ofNat 32 t)).toInt = (a : ℤ) - 128 + t := by
    show (w + BitVec.ofNat 32 t).toInt = _
    rw [BitVec.toInt_add, toInt_ofNat (by omega), hw, Int.bmod_def]; omega
  have e2 : (IntOp.addi (BitVec.ofNat 32 r) 256#32).toInt = (r : ℤ) + 256 := by
    show (BitVec.ofNat 32 r + BitVec.ofNat 32 256).toInt = _
    rw [BitVec.toInt_add, toInt_ofNat (by omega), toInt_ofNat (by omega), Int.bmod_def]; omega
  rw [sge_eq, sle_eq, sge_eq, slt_eq, e, e2, toInt_ofNat (by omega), toInt_ofNat (by omega), andi_if, andi_if, andi_if]
  refine if_congr ?_ rfl rfl
  show _ ∧ (a : ℤ) - 128 + t < 4096 ↔ _
  have e0 : ((0#32 : BitVec 32).toInt) = 0 := rfl
  rw [e0]; omega

end Cert.Words
-- ==== Proof.Ref.lean ====
module

public import proofs.«01_k».proof.Proof.Gen.ReferenceIdeal.Run
public import proofs.«01_k».proof.Proof.Soft
public import proofs.«01_k».proof.Proof.Words
public import Idealize.ShloMosaic.Lib.Routing.OpsOrder
public import Idealize.ShloMosaic.Lib.IdealHost

@[expose] public section

set_option maxRecDepth 16384

/-! # The reference, stage by stage

  Each stage takes the array of the stage before it as a parameter; `ref_eq` composes them. -/

noncomputable section

namespace Cert.R

open Cert.ReferenceIdeal Cert.ReferenceIdeal.Gen
open Idealize.ShloMosaic Idealize.ShloMosaic.TcCoe

section Stages
variable {F : FTy → Type} [FloatOps F]

/-- Which keys a query sees. -/
def near : IVec S4096x4096 1 :=
  cmpi .sle (absi (subi (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))))
    (broadcastInDim S4096x4096 ![] bcast_S_S4096x4096 (constantI S_ 32 128#32))
/-- Whether a query sees any key. -/
def keepOf (nr : IVec S4096x4096 1) : IVec S4096 1 := Host.reduce IntOp.ori nr (constantI S_ 1 0#1) reducesTo_S4096x4096_S4096_d1 h_S_
def keep : IVec S4096 1 := keepOf near
/-- The projected queries. -/
def proj (x : FVec F S2x4096x512 .bf16) (wq : FVec F S512x256 .bf16) : FVec F S2x4096x4x64 .f32 :=
  shapeCast _ (extf .f32 (truncf .bf16 (Host.dotGeneral dot_S2x4096x512_S512x256_S2x4096x256_2_0_01_1_n_n none (extf .f32 x bitsLt_bf16_f32) (extf .f32 wq bitsLt_bf16_f32)) bitsLt_bf16_f32) bitsLt_bf16_f32)
    shapeCasts_S2x4096x256_S2x4096x4x64
/-- The masked scores, the products rounded first. -/
def score (nr : IVec S4096x4096 1) (q : FVec F S2x4096x4x64 .f32) (k : FVec F S2x4096x4x64 .bf16) : FVec F S2x4x4096x4096 .f32 :=
  select (broadcastInDim S2x4x4096x4096 ![0, 1, 2, 3] bcast_S1x1x4096x4096_S2x4x4096x4096_0_1_2_3 (broadcastInDim S1x1x4096x4096 ![2, 3] bcast_S4096x4096_S1x1x4096x4096_2_3 nr))
    (mulf (extf .f32 (truncf .bf16 (Host.dotGeneral dot_S2x4096x4x64_S2x4096x4x64_S2x4x4096x4096_3_3_1_1_02_02 none q (extf .f32 k bitsLt_bf16_f32)) bitsLt_bf16_f32) bitsLt_bf16_f32)
      (broadcastInDim S2x4x4096x4096 ![] bcast_S_S2x4x4096x4096 (constant S_ .f32 0x3E000000#32)))
    (broadcastInDim S2x4x4096x4096 ![] bcast_S_S2x4x4096x4096 (id (constant S_ .f32 0xFF800000#32)))
/-- Every row's largest score. -/
def top (s : FVec F S2x4x4096x4096 .f32) : FVec F S2x4x4096 .f32 :=
  Host.reduce FloatOps.maximumf s (constant S_ .f32 0xFF800000#32) reducesTo_S2x4x4096x4096_S2x4x4096_d3 h_S_
/-- The exponentials of the scores less the row's largest. -/
def shifted (s : FVec F S2x4x4096x4096 .f32) (t : FVec F S2x4x4096 .f32) : FVec F S2x4x4096x4096 .f32 :=
  Host.exp (subf s (broadcastInDim S2x4x4096x4096 ![0, 1, 2, 3] bcast_S2x4x4096x1_S2x4x4096x4096_0_1_2_3 (broadcastInDim S2x4x4096x1 ![0, 1, 2] bcast_S2x4x4096_S2x4x4096x1_0_1_2 t)))
/-- Every row's sum. -/
def total (e : FVec F S2x4x4096x4096 .f32) : FVec F S2x4x4096 .f32 :=
  Host.reduceAdd e (constant S_ .f32 0x00000000#32) reducesTo_S2x4x4096x4096_S2x4x4096_d3 h_S_
/-- The divisor: the row's sum where the query sees a key, one elsewhere. -/
def divisor (kp : IVec S4096 1) (t : FVec F S2x4x4096 .f32) : FVec F S2x4x4096x1 .f32 :=
  select (broadcastInDim S2x4x4096x1 ![0, 1, 2, 3] bcast_S1x1x4096x1_S2x4x4096x1_0_1_2_3 (broadcastInDim S1x1x4096x1 ![2] bcast_S4096_S1x1x4096x1_2 kp))
    (broadcastInDim S2x4x4096x1 ![0, 1, 2] bcast_S2x4x4096_S2x4x4096x1_0_1_2 t)
    (broadcastInDim S2x4x4096x1 ![] bcast_S_S2x4x4096x1 (id (constant S_ .f32 0x3F800000#32)))
/-- The exponentials over the divisor, nothing where the query sees no key. -/
def weight (kp : IVec S4096 1) (e : FVec F S2x4x4096x4096 .f32) (dv : FVec F S2x4x4096x1 .f32) : FVec F S2x4x4096x4096 .f32 :=
  select (broadcastInDim S2x4x4096x4096 ![0, 1, 2, 3] bcast_S1x1x4096x1_S2x4x4096x4096_0_1_2_3 (broadcastInDim S1x1x4096x1 ![2] bcast_S4096_S1x1x4096x1_2 kp))
    (Host.divf e (broadcastInDim S2x4x4096x4096 ![0, 1, 2, 3] bcast_S2x4x4096x1_S2x4x4096x4096_0_1_2_3 dv))
    (broadcastInDim S2x4x4096x4096 ![] bcast_S_S2x4x4096x4096 (id (constant S_ .f32 0x00000000#32)))
/-- The contexts, the heads side by side. -/
def context (v : FVec F S2x4096x4x64 .bf16) (w : FVec F S2x4x4096x4096 .f32) : FVec F S2x4096x256 .f32 :=
  shapeCast _ (transpose S2x4096x4x64 [0, 3, 1, 2] (Host.dotGeneral dot_S2x4096x4x64_S2x4x4096x4096_S2x4x64x4096_1_3_3_2_02_01 none (extf .f32 v bitsLt_bf16_f32) w)
    transposes_S2x4x64x4096_S2x4096x4x64_0_3_1_2) shapeCasts_S2x4096x4x64_S2x4096x256
/-- The output projection. -/
def result (ctx : FVec F S2x4096x256 .f32) (wo : FVec F S256x512 .bf16) : FVec F S2x4096x512 .f32 :=
  Host.dotGeneral dot_S2x4096x256_S256x512_S2x4096x512_2_0_01_1_n_n none ctx (extf .f32 wo bitsLt_bf16_f32)

/-- The weights of the masked scores. -/
def soft (s : FVec F S2x4x4096x4096 .f32) : FVec F S2x4x4096x4096 .f32 :=
  weight keep (shifted s (top s)) (divisor keep (total (shifted s (top s))))
/-- All stages. -/
def whole (x : FVec F S2x4096x512 .bf16) (wq : FVec F S512x256 .bf16) (k v : FVec F S2x4096x4x64 .bf16) (wo : FVec F S256x512 .bf16) : FVec F S2x4096x512 .f32 :=
  result (context v (soft (score near (proj x wq) k))) wo

/-- What the reference leaves is all the stages applied to its arguments. -/
theorem ref_eq (m : (ℓ : Loc nD τ sig) → Buf (Elt F) ℓ) (c : Dev nD) :
    Value.res_out0 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_out0 Value.res_main_v43 whole soft result context weight divisor total shifted top score proj keep keepOf near
  rfl

end Stages

/-! ## Read at an index -/

theorem near_at (i g : Fin 4096) : near (ix2 i g) = if i.val ≤ g.val + 128 ∧ g.val ≤ i.val + 128 then 1#1 else 0#1 := by
  pointwise [near]
  exact Words.near_word i.isLt g.isLt

theorem keepOf_at (nr : IVec S4096x4096 1) (i : Fin 4096) : keepOf nr (ix1 i) = Finset.univ.fold IntOp.ori (0#1) fun g => nr (ix2 i g) := by
  pointwise [keepOf]

/-- Every query sees a key, its own. -/
theorem keep_at (i : Fin 4096) : keep (ix1 i) = 1#1 := by
  unfold keep
  rw [keepOf_at, Routing.fold_ori]
  exact ⟨i, Finset.mem_univ i, by rw [near_at, if_pos ⟨by omega, by omega⟩]⟩

theorem proj_at (x : FVec Ideal S2x4096x512 .bf16) (wq : FVec Ideal S512x256 .bf16) (b : Fin 2) (i : Fin 4096) (h : Fin 4) (d : Fin 64) :
    proj x wq (ix4 b i h d) = ∑ t, x (ix3 b i t) * wq (ix2 t ⟨h.val * 64 + d.val, by omega⟩) := by
  pointwise [proj]

theorem score_at (nr : IVec S4096x4096 1) (q : FVec Ideal S2x4096x4x64 .f32) (k : FVec Ideal S2x4096x4x64 .bf16) (b : Fin 2) (h : Fin 4) (i g : Fin 4096) :
    score nr q k (ix4 b h i g)
      = Scalar.select (nr (ix2 i g)) ((∑ d, q (ix4 b i h d) * k (ix4 b g h d)) * Ideal.ofBits .f32 0x3E000000#32) (Ideal.ofBits .f32 0xFF800000#32) := by
  pointwise [score]
  rfl

theorem top_at (s : FVec Ideal S2x4x4096x4096 .f32) (b : Fin 2) (h : Fin 4) (i : Fin 4096) :
    top s (ix3 b h i) = Finset.univ.fold max (Ideal.ofBits .f32 0xFF800000#32) fun g => s (ix4 b h i g) := by
  pointwise [top]

theorem shifted_at (s : FVec Ideal S2x4x4096x4096 .f32) (t : FVec Ideal S2x4x4096 .f32) (b : Fin 2) (h : Fin 4) (i g : Fin 4096) :
    shifted s t (ix4 b h i g) = Ideal.exp (s (ix4 b h i g) - t (ix3 b h i)) := by
  pointwise [shifted]

theorem total_at (e : FVec Ideal S2x4x4096x4096 .f32) (b : Fin 2) (h : Fin 4) (i : Fin 4096) : total e (ix3 b h i) = ∑ g, e (ix4 b h i g) := by
  pointwise [total]

theorem divisor_at (kp : IVec S4096 1) (t : FVec Ideal S2x4x4096 .f32) (b : Fin 2) (h : Fin 4) (i : Fin 4096) (hk : kp (ix1 i) = 1#1) :
    divisor kp t (ix4 b h i 0) = t (ix3 b h i) := by
  pointwise [divisor]
  rw [hk]; rfl

theorem weight_at (kp : IVec S4096 1) (e : FVec Ideal S2x4x4096x4096 .f32) (dv : FVec Ideal S2x4x4096x1 .f32) (b : Fin 2) (h : Fin 4) (i g : Fin 4096)
    (hk : kp (ix1 i) = 1#1) : weight kp e dv (ix4 b h i g) = Ideal.div (e (ix4 b h i g)) (dv (ix4 b h i 0)) := by
  pointwise [weight]
  rw [hk]; rfl

theorem context_at (v : FVec Ideal S2x4096x4x64 .bf16) (w : FVec Ideal S2x4x4096x4096 .f32) (b : Fin 2) (i : Fin 4096) (j : Fin 256) :
    context v w (ix3 b i j) = ∑ g, v (ix4 b g ⟨j.val / 64, by omega⟩ ⟨j.val % 64, by omega⟩) * w (ix4 b ⟨j.val / 64, by omega⟩ i g) := by
  pointwise [context]

theorem result_at (ctx : FVec Ideal S2x4096x256 .f32) (wo : FVec Ideal S256x512 .bf16) (b : Fin 2) (i : Fin 4096) (n : Fin 512) :
    result ctx wo (ix3 b i n) = ∑ j, ctx (ix3 b i j) * wo (ix2 j n) := by
  pointwise [result]

/-! ## The constants -/

theorem ninf : Ideal.ofBits .f32 0xFF800000#32 = ⊥ := by simp [Ideal.ofBits, Ideal.ieee]
theorem eighth : Ideal.ofBits .f32 0x3E000000#32 = (((1 : ℝ) / 8 : ℝ) : EReal) := by
  simp [Ideal.ofBits, Ideal.ieee, -EReal.coe_mul]; norm_num

/-! ## The whole reference -/

theorem soft_at (s : FVec Ideal S2x4x4096x4096 .f32) (b : Fin 2) (h : Fin 4) (i g : Fin 4096) :
    soft s (ix4 b h i g) = Ideal.div (Ideal.exp (s (ix4 b h i g) - Finset.univ.fold max ⊥ fun g => s (ix4 b h i g)))
      (∑ g', Ideal.exp (s (ix4 b h i g') - Finset.univ.fold max ⊥ fun g => s (ix4 b h i g))) := by
  unfold soft
  rw [weight_at _ _ _ _ _ _ _ (keep_at i), divisor_at _ _ _ _ _ (keep_at i), total_at, shifted_at, top_at, ninf]
  refine congrArg _ (Finset.sum_congr rfl fun g' _ => ?_)
  rw [shifted_at, top_at, ninf]

variable (x : FVec Ideal S2x4096x512 .bf16) (wq : FVec Ideal S512x256 .bf16) (k v : FVec Ideal S2x4096x4x64 .bf16) (wo : FVec Ideal S256x512 .bf16)

/-- The scores of query `i` of head `h`: those of the keys it sees, the products scaled. -/
theorem scores_at (b : Fin 2) (h : Fin 4) (i g : Fin 4096) :
    score near (proj x wq) k (ix4 b h i g) = if i.val ≤ g.val + 128 ∧ g.val ≤ i.val + 128 then
      (∑ d : Fin 64, (∑ t, x (ix3 b i t) * wq (ix2 t ⟨h.val * 64 + d.val, by omega⟩)) * k (ix4 b g h d)) * (((1 : ℝ) / 8 : ℝ) : EReal) else ⊥ := by
  rw [score_at, near_at, ninf, eighth]
  simp only [proj_at]
  by_cases hn : i.val ≤ g.val + 128 ∧ g.val ≤ i.val + 128
  · rw [if_pos hn, if_pos hn]; rfl
  · rw [if_neg hn, if_neg hn]; rfl

/-- The reference at an index: the sum, over the columns of the contexts, of the softmax-weighted values times the output weights. -/
theorem whole_at (b : Fin 2) (i : Fin 4096) (n : Fin 512) :
    whole x wq k v wo (ix3 b i n) = ∑ j : Fin 256, (∑ g, v (ix4 b g ⟨j.val / 64, by omega⟩ ⟨j.val % 64, by omega⟩)
      * soft (score near (proj x wq) k) (ix4 b ⟨j.val / 64, by omega⟩ i g)) * wo (ix2 j n) := by
  unfold whole
  rw [result_at]
  exact Finset.sum_congr rfl fun j _ => by rw [context_at]

/-! ## With real arguments -/

variable (xr : S2x4096x512.Idx → ℝ) (wr : S512x256.Idx → ℝ) (kr : S2x4096x4x64.Idx → ℝ)

/-- The projected query of real arguments. -/
def qr (b : Fin 2) (i : Fin 4096) (j : Fin 256) : ℝ := ∑ t, xr (ix3 b i t) * wr (ix2 t j)
/-- The score of a query and a key of real arguments. -/
def zr (b : Fin 2) (h : Fin 4) (i g : Fin 4096) : ℝ :=
  (∑ d : Fin 64, qr xr wr b i ⟨h.val * 64 + d.val, by omega⟩ * kr (ix4 b g h d)) * (1 / 8)

/-- Whether query `i` sees key `g`. -/
abbrev sees (i g : Fin 4096) : Prop := i.val ≤ g.val + 128 ∧ g.val ≤ i.val + 128

theorem scores_real (hx : ∀ i, x i = (xr i : EReal)) (hw : ∀ i, wq i = (wr i : EReal)) (hk : ∀ i, k i = (kr i : EReal)) (b : Fin 2) (h : Fin 4) (i g : Fin 4096) :
    score near (proj x wq) k (ix4 b h i g) = Soft.sc (sees i) (zr xr wr kr b h i) g := by
  rw [scores_at]
  unfold Soft.sc
  refine if_congr Iff.rfl ?_ rfl
  simp only [hx, hw, hk, ← EReal.coe_mul, Soft.coe_sum]
  rfl

/-- A weight of the reference, its arguments real. -/
theorem soft_real (hx : ∀ i, x i = (xr i : EReal)) (hw : ∀ i, wq i = (wr i : EReal)) (hk : ∀ i, k i = (kr i : EReal)) (b : Fin 2) (h : Fin 4) (i g : Fin 4096) :
    soft (score near (proj x wq) k) (ix4 b h i g)
      = Ideal.div (Ideal.exp (Soft.sc (sees i) (zr xr wr kr b h i) g - Finset.univ.fold max ⊥ (Soft.sc (sees i) (zr xr wr kr b h i))))
        (∑ g', Ideal.exp (Soft.sc (sees i) (zr xr wr kr b h i) g' - Finset.univ.fold max ⊥ (Soft.sc (sees i) (zr xr wr kr b h i)))) := by
  rw [soft_at]
  simp only [scores_real x wq k xr wr kr hx hw hk]

end Cert.R
end
-- ==== Proof.Heads.lean ====
module

public import proofs.«01_k».proof.Proof.Attn
public import proofs.«01_k».proof.Proof.Soft
public import proofs.«01_k».proof.Proof.Ref

@[expose] public section

/-! # A head over a window is the head over all rows

  A row of the kernel's context runs over the 384 rows of its window, masked to at most 257 of them. Every row of the whole
  array that the query sees lies in the window, so the quotient of the two sums is the reference's softmax over all rows,
  applied to the values. -/

noncomputable section

namespace Cert.K

open Cert.KernelIdeal Cert.KernelIdeal.Gen
open Idealize.ShloMosaic Idealize.ShloMosaic.TcCoe

theorem cx_eq (xr : (⟨3, ![2, 4096, 512]⟩ : Shape).Idx → ℝ) (wr : (⟨2, ![512, 256]⟩ : Shape).Idx → ℝ) (kr : (⟨4, ![2, 4096, 4, 64]⟩ : Shape).Idx → ℝ)
    (v : (⟨4, ![2, 4096, 4, 64]⟩ : Shape).Idx → EReal) (q : FVec Ideal S256x256 .bf16) (mask : IVec S128x384 1) (kv : FVec Ideal S384x512 .bf16)
    (r0 a : ℕ) (b : Fin 2) (h : Fin 4) (d : Fin 64) (r : Fin 128) (i : Fin 4096) (hi : i.val = a + r)
    (hq : ∀ e : Fin 256, at2 q (r0 + r) e = ((R.qr xr wr b i e * (1 / 8) : ℝ) : EReal))
    (hm : ∀ t : Fin 384, mask (ix2 r t) = if r.val ≤ t.val ∧ t.val ≤ r.val + 256 ∧ 128 ≤ a + t.val ∧ a + t.val < 4096 + 128 then 1#1 else 0#1)
    (hk : ∀ (t : Fin 384) (g : Fin 4096), g.val + 128 = a + t.val → ∀ x : Fin 64, at2 kv t (64 * h + x) = (kr (ix4 b g h x) : EReal))
    (hv : ∀ (t : Fin 384) (g : Fin 4096), g.val + 128 = a + t.val → at2 kv t (256 + 64 * h + d) = v (ix4 b g h d)) :
    cx q mask kv r0 h r d = ∑ g : Fin 4096, v (ix4 b g h d) *
      Ideal.div (Ideal.exp (Soft.sc (R.sees i) (R.zr xr wr kr b h i) g - Finset.univ.fold max ⊥ (Soft.sc (R.sees i) (R.zr xr wr kr b h i))))
        (∑ g', Ideal.exp (Soft.sc (R.sees i) (R.zr xr wr kr b h i) g' - Finset.univ.fold max ⊥ (Soft.sc (R.sees i) (R.zr xr wr kr b h i)))) := by
  have hr := r.isLt
  refine Soft.quotient (R.sees i) (R.zr xr wr kr b h i) (i := i) ⟨by omega, by omega⟩ a (fun g => v (ix4 b g h d)) (wt q mask kv r0 h r)
    (fun t => at2 kv t (256 + 64 * h + d)) ?_ ?_ ?_
  · intro t g e hp
    have hg := g.isLt
    refine ⟨?_, hv t g e⟩
    have hp' : i.val ≤ g.val + 128 ∧ g.val ≤ i.val + 128 := hp
    unfold wt
    rw [hm t, if_pos (by omega)]
    refine congrArg Ideal.exp ((if_pos rfl).trans ?_)
    unfold R.zr
    rw [Finset.sum_mul, ← Soft.coe_sum]
    refine Finset.sum_congr rfl fun x _ => ?_
    rw [hk t g e x, show 64 * h.val + x.val = (⟨h.val * 64 + x.val, by omega⟩ : Fin 256).val by show _ = h.val * 64 + x.val; omega, hq, ← EReal.coe_mul]
    congr 1
    ring
  · intro t ho
    unfold wt
    rw [hm t, if_neg]
    · exact (congrArg Ideal.exp (if_neg (by decide))).trans Ideal.exp_bot
    · intro hc
      refine ho ⟨a + t.val - 128, by omega⟩ (by show a + t.val - 128 + 128 = _; omega) ?_
      show i.val ≤ a + t.val - 128 + 128 ∧ a + t.val - 128 ≤ i.val + 128
      omega
  · intro g hp
    have hp' : i.val ≤ g.val + 128 ∧ g.val ≤ i.val + 128 := hp
    omega

end Cert.K
end
-- ==== Proof.Value.lean ====
module

public import proofs.«01_k».proof.Proof.Inputs
public import proofs.«01_k».proof.Proof.Heads

@[expose] public section

/-! # What a device stores is its block of the reference's result -/

noncomputable section

namespace Cert.K

open Cert.KernelIdeal Cert.KernelIdeal.Gen
open Idealize.ShloMosaic Idealize.ShloMosaic.TcCoe

/-! ## The masks -/

/-- The first row of a device's window, 128 rows before its first own row. -/
theorem first_upper (c : Dev nD) : (Scalar.addi (Scalar.subi (Scalar.muli (pos c) 256#32) 128#32) 0#32).toInt = ((256 * c.val : ℕ) : ℤ) - 128 := by
  revert c; decide
theorem first_lower (c : Dev nD) : (Scalar.addi (Scalar.subi (Scalar.muli (pos c) 256#32) 128#32) 128#32).toInt = ((256 * c.val + 128 : ℕ) : ℤ) - 128 := by
  revert c; decide

/-- The mask of the upper 128 query rows. -/
theorem maskA_at (c : Dev nD) (r : Fin 128) (t : Fin 384) :
    maskA c (ix2 r t) = if r.val ≤ t.val ∧ t.val ≤ r.val + 256 ∧ 128 ≤ 256 * c.val + t.val ∧ 256 * c.val + t.val < 4096 + 128 then 1#1 else 0#1 := by
  have hc : c.val < 16 := c.isLt
  pointwise [maskA, k0_pay13, k0_pay11, k0_pay12, i0, i1]
  exact Words.window_word (first_upper c) (by omega) r.isLt t.isLt

/-- The mask of the lower 128 query rows. -/
theorem maskB_at (c : Dev nD) (r : Fin 128) (t : Fin 384) :
    maskB c (ix2 r t) = if r.val ≤ t.val ∧ t.val ≤ r.val + 256 ∧ 128 ≤ 256 * c.val + 128 + t.val ∧ 256 * c.val + 128 + t.val < 4096 + 128 then 1#1 else 0#1 := by
  have hc : c.val < 16 := c.isLt
  pointwise [maskB, k0_pay25]
  exact Words.window_word (first_lower c) (by omega) r.isLt t.isLt

/-! ## The queries and the output weights -/

theorem pay8_at (wq : FVec Ideal S512x256 .bf16) (x : FVec Ideal S1x256x512 .bf16) (i e : Fin 256) :
    k0_pay8 (F := Ideal) wq x (ix2 i e) = (∑ t : Fin 512, x (ix3 0 i t) * wq (ix2 t e)) * Ideal.ofBits .f32 0x3E000000#32 := by
  pointwise [k0_pay8, k0_pay7]

theorem pay9_at (wq : FVec Ideal S512x256 .bf16) (x : FVec Ideal S1x256x512 .bf16) (i e : Fin 256) :
    k0_pay9 (F := Ideal) wq x (ix2 i e) = (∑ t : Fin 512, x (ix3 0 i t) * wq (ix2 t e)) * Ideal.ofBits .f32 0x3E000000#32 := by
  pointwise [k0_pay9, k0_pay7]

theorem pay10_at (wo : FVec Ideal S256x512 .bf16) (j : Fin 256) (n : Fin 512) : k0_pay10 (F := Ideal) wo (ix2 j n) = wo (ix2 j n) := by
  pointwise [k0_pay10]

/-! ## The stored rows -/

section rows

variable (m : (ℓ : Loc nD τ sig) → Buf (Elt Ideal) ℓ) (ρ : Dev nD → PrngReg)

/-- A device's rows of the input, and its copy of the query weights. -/
def argX (c : Dev nD) : FVec Ideal S2x256x512 .bf16 := m ((c : Thread nD τ).loc main_arg0)
def argW (c : Dev nD) : FVec Ideal S512x256 .bf16 := m ((c : Thread nD τ).loc main_arg1)

/-- The memory holds the blocks and the copies of the whole arrays `X`, `W`, `K`, `V` and `Wo`. -/
structure Holds (X : FVec Ideal ⟨3, ![2, 4096, 512]⟩ .bf16) (W : FVec Ideal ⟨2, ![512, 256]⟩ .bf16)
    (K V : FVec Ideal ⟨4, ![2, 4096, 4, 64]⟩ .bf16) (Wo : FVec Ideal ⟨2, ![256, 512]⟩ .bf16) : Prop where
  x (c : Dev nD) (b : Fin 2) (i : Fin 256) (t : Fin 512) (g : Fin 4096) (e : g.val = 256 * c.val + i.val) :
    argX m c (ix3 b i t) = X (ix3 b g t)
  wq (c : Dev nD) : argW m c = W
  k (c : Dev nD) (b : Fin 2) (i : Fin 256) (h : Fin 4) (d : Fin 64) (g : Fin 4096) (e : g.val = 256 * c.val + i.val) :
    (m ((c : Thread nD τ).loc main_arg2) (ix4 b i h d) : EReal) = K (ix4 b g h d)
  v (c : Dev nD) (b : Fin 2) (i : Fin 256) (h : Fin 4) (d : Fin 64) (g : Fin 4096) (e : g.val = 256 * c.val + i.val) :
    (m ((c : Thread nD τ).loc main_arg3) (ix4 b i h d) : EReal) = V (ix4 b g h d)
  wo (c : Dev nD) : m ((c : Thread nD τ).loc main_arg4) = Wo

variable {X : FVec Ideal ⟨3, ![2, 4096, 512]⟩ .bf16} {W : FVec Ideal ⟨2, ![512, 256]⟩ .bf16}
  {K V : FVec Ideal ⟨4, ![2, 4096, 4, 64]⟩ .bf16} {Wo : FVec Ideal ⟨2, ![256, 512]⟩ .bf16}

/-- The buffer's row that stands for row `g` of the whole arrays holds its keys, -/
theorem kvAt_key (H : Holds m X W K V Wo) (c : Dev nD) (b : Fin 2) (l : ℕ) (g : Fin 4096) (e : g.val + 128 = 256 * c.val + l) (hl : l < 512)
    (h : Fin 4) (x : Fin 64) : (kvAt m ρ c b l (64 * h + x) : EReal) = K (ix4 b g h x) := by
  have hg := g.isLt
  rw [kvAt_own m ρ c b l _ g.val hg e hl]
  refine (own_key m ρ _ b ⟨g.val % 256, Nat.mod_lt _ (by decide)⟩ h x).trans (H.k _ b _ h x g ?_)
  show g.val = 256 * (g.val / 256) + g.val % 256; omega

/-- and its values. -/
theorem kvAt_val (H : Holds m X W K V Wo) (c : Dev nD) (b : Fin 2) (l : ℕ) (g : Fin 4096) (e : g.val + 128 = 256 * c.val + l) (hl : l < 512)
    (h : Fin 4) (x : Fin 64) : (kvAt m ρ c b l (256 + 64 * h + x) : EReal) = V (ix4 b g h x) := by
  have hg := g.isLt
  rw [kvAt_own m ρ c b l _ g.val hg e hl]
  refine (own_val m ρ _ b ⟨g.val % 256, Nat.mod_lt _ (by decide)⟩ h x).trans (H.v _ b _ h x g ?_)
  show g.val = 256 * (g.val / 256) + g.val % 256; omega

/-- A row of a stored block is the reference's row, when the inputs, the query weights and the keys are real. -/
theorem rows_eq (H : Holds m X W K V Wo) {xr : (⟨3, ![2, 4096, 512]⟩ : Shape).Idx → ℝ} {wr : (⟨2, ![512, 256]⟩ : Shape).Idx → ℝ}
    {kr : (⟨4, ![2, 4096, 4, 64]⟩ : Shape).Idx → ℝ} (hx : ∀ i, X i = (xr i : EReal)) (hw : ∀ i, W i = (wr i : EReal)) (hk : ∀ i, K i = (kr i : EReal))
    (c : Dev nD) (b : Fin 2) (r0 : ℕ) (q : FVec Ideal S256x256 .bf16) (mask : IVec S128x384 1) (kv : FVec Ideal S384x512 .bf16)
    (ctx : FVec Ideal S128x256 .f32) (hr0 : r0 ≤ 128)
    (hq : ∀ i e : Fin 256, q (ix2 i e) = (∑ t : Fin 512, argX m c (ix3 b i t) * argW m c (ix2 t e)) * Ideal.ofBits .f32 0x3E000000#32)
    (hm : ∀ (r : Fin 128) (t : Fin 384), mask (ix2 r t)
      = if r.val ≤ t.val ∧ t.val ≤ r.val + 256 ∧ 128 ≤ 256 * c.val + r0 + t.val ∧ 256 * c.val + r0 + t.val < 4096 + 128 then 1#1 else 0#1)
    (hkv : ∀ (t : Fin 384) (e : Fin 512), (kv (ix2 t e) : EReal) = kvAt m ρ c b (r0 + t) e)
    (hctx : ∀ (r : Fin 128) (j : Fin 256), ctx (ix2 r j) = cx q mask kv r0 (j.val / 64) r (j.val % 64))
    (r : Fin 128) (n : Fin 512) (i : Fin 4096) (hi : i.val = 256 * c.val + r0 + r.val) :
    block (wob m ρ c) ctx (ix3 0 r n) = R.whole X W K V Wo (ix3 b i n) := by
  have hr := r.isLt
  rw [block_at, R.whole_at]
  refine Finset.sum_congr rfl fun j _ => ?_
  have hj := j.isLt
  rw [show (wob m ρ c) (ix2 j n) = Wo (ix2 j n) from (pay10_at _ j n).trans (congrFun ((woStg_eq m ρ c).trans (H.wo c)) _), hctx]
  refine congrArg (fun z : EReal => z * _) ?_
  refine (cx_eq xr wr kr V q mask kv r0 (256 * c.val + r0) b ⟨j.val / 64, by omega⟩ ⟨j.val % 64, by omega⟩ r i hi ?_ (hm r) ?_ ?_).trans ?_
  · intro e
    rw [← at2_of q ⟨r0 + r.val, by omega⟩ e rfl rfl, hq, R.eighth, H.wq]
    rw [Finset.sum_congr rfl (fun t _ => show _ = ((xr (ix3 b i t) * wr (ix2 t e) : ℝ) : EReal) by
      rw [H.x c b _ t i (by show i.val = 256 * c.val + (r0 + r.val); omega), hx, hw, ← EReal.coe_mul])]
    rw [Soft.coe_sum, ← EReal.coe_mul]
    rfl
  · intro t g e x
    rw [← at2_of kv t ⟨64 * (j.val / 64) + x.val, by omega⟩ rfl rfl, hkv]
    exact (kvAt_key m ρ H c b (r0 + t) g (by omega) (by omega) ⟨j.val / 64, by omega⟩ x).trans (hk _)
  · intro t g e
    rw [← at2_of kv t ⟨256 + 64 * (j.val / 64) + j.val % 64, by omega⟩ rfl rfl, hkv]
    exact kvAt_val m ρ H c b (r0 + t) g (by omega) (by omega) ⟨j.val / 64, by omega⟩ ⟨j.val % 64, by omega⟩
  · refine Finset.sum_congr rfl fun g _ => ?_
    rw [R.soft_real X W K xr wr kr hx hw hk]

/-- What a device stores is its rows of the reference's result. -/
theorem outFull_eq (H : Holds m X W K V Wo) {xr : (⟨3, ![2, 4096, 512]⟩ : Shape).Idx → ℝ} {wr : (⟨2, ![512, 256]⟩ : Shape).Idx → ℝ}
    {kr : (⟨4, ![2, 4096, 4, 64]⟩ : Shape).Idx → ℝ} (hx : ∀ i, X i = (xr i : EReal)) (hw : ∀ i, W i = (wr i : EReal)) (hk : ∀ i, K i = (kr i : EReal))
    (c : Dev nD) (b : Fin 2) (r : Fin 256) (n : Fin 512) (i : Fin 4096) (hi : i.val = 256 * c.val + r.val) :
    outFull m ρ c (ix3 b r n) = R.whole X W K V Wo (ix3 b i n) := by
  have hr := r.isLt
  have hb : b = 0 ∨ b = 1 := by omega
  have qa_at : ∀ i e : Fin 256, qa m ρ c (ix2 i e) = (∑ t : Fin 512, argX m c (ix3 0 i t) * argW m c (ix2 t e)) * Ideal.ofBits .f32 0x3E000000#32 :=
    fun i e => (pay8_at _ _ i e).trans (congrArg (fun z : EReal => z * _) (Finset.sum_congr rfl fun t _ => by rw [x0_at, wqStg_eq]; rfl))
  have qb_at : ∀ i e : Fin 256, qb m ρ c (ix2 i e) = (∑ t : Fin 512, argX m c (ix3 1 i t) * argW m c (ix2 t e)) * Ideal.ofBits .f32 0x3E000000#32 :=
    fun i e => (pay9_at _ _ i e).trans (congrArg (fun z : EReal => z * _) (Finset.sum_congr rfl fun t _ => by rw [x1_at, wqStg_eq]; rfl))
  show outAt m ρ c b.val r.val n.val = _
  unfold outAt
  by_cases h : r.val < 128
  · rw [if_pos h]
    refine (at3_eq (n₀ := 1) (n₁ := 128) (n₂ := 512) _ (ix3 0 ⟨r.val, h⟩ n) rfl rfl rfl).trans ?_
    rcases hb with rfl | rfl
    · rw [if_pos (show ((0 : Fin 2) : ℕ) = 0 from rfl), blkA_eq]
      exact rows_eq m ρ H hx hw hk c 0 0 _ _ _ _ (by omega) qa_at (fun r t => maskA_at c r t)
        (fun t e => (flat_at _ t e).trans (window_at m ρ c 0 0 _ t e)) (fun r j => ctxU_at _ _ _ r j) ⟨r.val, h⟩ n i (by omega)
    · rw [if_neg (by decide), blkB_eq]
      exact rows_eq m ρ H hx hw hk c 1 0 _ _ _ _ (by omega) qb_at (fun r t => maskA_at c r t)
        (fun t e => (flat_at _ t e).trans (window_at m ρ c 1 0 _ t e)) (fun r j => ctxU_at _ _ _ r j) ⟨r.val, h⟩ n i (by omega)
  · rw [if_neg h]
    refine (at3_eq (n₀ := 1) (n₁ := 128) (n₂ := 512) _ (ix3 0 ⟨r.val - 128, by omega⟩ n) rfl rfl rfl).trans ?_
    rcases hb with rfl | rfl
    · rw [if_pos (show ((0 : Fin 2) : ℕ) = 0 from rfl), blkC_eq]
      exact rows_eq m ρ H hx hw hk c 0 128 _ _ _ _ (by omega) qa_at (fun r t => maskB_at c r t)
        (fun t e => (flat_at _ t e).trans (window_at m ρ c 0 128 _ t e)) (fun r j => ctxL_at _ _ _ r j) ⟨r.val - 128, by omega⟩ n i (by show _ = _ + (r.val - 128); omega)
    · rw [if_neg (by decide), blkD_eq]
      exact rows_eq m ρ H hx hw hk c 1 128 _ _ _ _ (by omega) qb_at (fun r t => maskB_at c r t)
        (fun t e => (flat_at _ t e).trans (window_at m ρ c 1 128 _ t e)) (fun r j => ctxL_at _ _ _ r j) ⟨r.val - 128, by omega⟩ n i (by show _ = _ + (r.val - 128); omega)

end rows

end Cert.K
end
-- ==== Proof.Finite.lean ====
module

public import proofs.«01_k».proof.Defs
public import Idealize.ShloMosaic.Lib.ReduceAll
public import Idealize.ShloMosaic.Lib.Decide
public import Idealize.ShloMosaic.PureOps.Ideal

@[expose] public section

/-! # What the precondition says: the inputs, the query weights and the keys of every device are real -/

noncomputable section

namespace Cert.Finite

open Idealize.ShloMosaic Idealize.SL.Sem

instance facts_kernel : Cert.Pre_finite_KernelIdeal.Facts where
  bitsLt_bf16_f32 := by decide
  bcast_S_S2x256x512 := by decide
  reducesTo_S2x256x512_S_d0_1_2 := by decide
  h_S_ := by decide
  bcast_S_S512x256 := by decide
  reducesTo_S512x256_S_d0_1 := by decide
  bcast_S_S2x256x4x64 := by decide
  reducesTo_S2x256x4x64_S_d0_1_2_3 := by decide

instance facts_reference : Cert.Pre_finite_ReferenceIdeal.Facts where
  bitsLt_bf16_f32 := by decide
  bcast_S_S2x4096x512 := by decide
  reducesTo_S2x4096x512_S_d0_1_2 := by decide
  h_S_ := by decide
  bcast_S_S512x256 := by decide
  reducesTo_S512x256_S_d0_1 := by decide
  bcast_S_S2x4096x4x64 := by decide
  reducesTo_S2x4096x4x64_S_d0_1_2_3 := by decide

/-- The word of plus infinity. -/
theorem inf_word : Ideal.ofBits .f32 0x7F800000#32 = ⊤ := by simp [Ideal.ofBits, Ideal.ieee]

/-- A value whose absolute value is below plus infinity is a real number. -/
theorem real_of_lt {x : EReal} (h : Ideal.cmp .olt (max x (-x)) (Ideal.ofBits .f32 0x7F800000#32) = 1#1) : ∃ r : ℝ, x = (r : EReal) := by
  rw [inf_word] at h
  induction x with
  | bot => exact absurd h (by simp [Ideal.cmp])
  | top => exact absurd h (by simp [Ideal.cmp])
  | coe r => exact ⟨r, rfl⟩

instance : Subsingleton Cert.Pre_finite_KernelIdeal.S_.Idx := ⟨fun a b => funext fun i => i.elim0⟩

/-- Of arguments the precondition holds for, the first three have real entries. -/
theorem real_args {x : FVec Ideal Cert.Pre_finite_KernelIdeal.S2x256x512 .bf16} {wq : FVec Ideal Cert.Pre_finite_KernelIdeal.S512x256 .bf16}
    {k v : FVec Ideal Cert.Pre_finite_KernelIdeal.S2x256x4x64 .bf16} {wo : FVec Ideal Cert.Pre_finite_KernelIdeal.S256x512 .bf16}
    (h : Cert.Pre_finite_KernelIdeal.fn (F := Ideal) x wq k v wo = fun _ => 1#1) :
    (∀ i, ∃ r : ℝ, x i = (r : EReal)) ∧ (∀ i, ∃ r : ℝ, wq i = (r : EReal)) ∧ ∀ i, ∃ r : ℝ, k i = (r : EReal) := by
  have h0 := congrFun h (fun i => i.elim0)
  obtain ⟨h1, hk⟩ := IntOp.andi_eq_one.1 h0
  obtain ⟨hx, hw⟩ := IntOp.andi_eq_one.1 h1
  exact ⟨fun i => real_of_lt (Host.reduce_andi_all _ _ _ _ _ hx i), fun i => real_of_lt (Host.reduce_andi_all _ _ _ _ _ hw i),
    fun i => real_of_lt (Host.reduce_andi_all _ _ _ _ _ hk i)⟩

end Cert.Finite
end
-- ==== Proof.Agree.lean ====
module

public import proofs.«01_k».proof.Proof.Value
public import proofs.«01_k».proof.Proof.Finite
public import proofs.«01_k».proof.Proof.Frames

@[expose] public section

/-! # The kernel computes the reference's function -/

noncomputable section

namespace Cert.K

open Idealize.ShloMosaic Idealize.SL.Sem Idealize.ShloMosaic.TcCoe

attribute [local instance] Cert.KernelIdeal.Gen.facts Cert.ReferenceIdeal.Gen.facts

/-! ## Where a block's element lies in the whole array -/

theorem idx3 (h : Layout.Tiles ⟨3, ![2, 256, 512]⟩ ⟨3, ![2, 4096, 512]⟩ 1 16) (c : Fin 16) (b : Fin 2) (i : Fin 256) (t : Fin 512) (g : Fin 4096)
    (e : g.val = 256 * c.val + i.val) : h.idx c (ix3 b i t) = ix3 b g t := by
  funext a
  refine Fin.ext ?_
  match a with
  | ⟨0, _⟩ => exact Layout.Tiles.idx_val_of_ne h c _ _ (show 0 ≠ 1 by omega)
  | ⟨1, _⟩ => exact (Layout.Tiles.idx_val_self h c _ ⟨1, by decide⟩ rfl).trans (by show c.val * 256 + i.val = g.val; omega)
  | ⟨2, _⟩ => exact Layout.Tiles.idx_val_of_ne h c _ _ (show 2 ≠ 1 by omega)

theorem idx4 (h : Layout.Tiles ⟨4, ![2, 256, 4, 64]⟩ ⟨4, ![2, 4096, 4, 64]⟩ 1 16) (c : Fin 16) (b : Fin 2) (i : Fin 256) (k : Fin 4) (d : Fin 64) (g : Fin 4096)
    (e : g.val = 256 * c.val + i.val) : h.idx c (ix4 b i k d) = ix4 b g k d := by
  funext a
  refine Fin.ext ?_
  match a with
  | ⟨0, _⟩ => exact Layout.Tiles.idx_val_of_ne h c _ _ (show 0 ≠ 1 by omega)
  | ⟨1, _⟩ => exact (Layout.Tiles.idx_val_self h c _ ⟨1, by decide⟩ rfl).trans (by show c.val * 256 + i.val = g.val; omega)
  | ⟨2, _⟩ => exact Layout.Tiles.idx_val_of_ne h c _ _ (show 2 ≠ 1 by omega)
  | ⟨3, _⟩ => exact Layout.Tiles.idx_val_of_ne h c _ _ (show 3 ≠ 1 by omega)

/-- An array every block of which has real entries has real entries. -/
theorem real3 {X : FVec Ideal ⟨3, ![2, 4096, 512]⟩ .bf16} {f : Fin 16 → FVec Ideal ⟨3, ![2, 256, 512]⟩ .bf16}
    (h : ∀ c, f c = Layout.block ⟨3, ![2, 256, 512]⟩ ⟨3, ![2, 4096, 512]⟩ 1 16 c X) (hr : ∀ c i, ∃ r : ℝ, f c i = (r : EReal)) (i) : ∃ r : ℝ, X i = (r : EReal) := by
  obtain ⟨b, g, t, rfl⟩ : ∃ (b : Fin 2) (g : Fin 4096) (t : Fin 512), i = ix3 b g t := ⟨i 0, i 1, i 2, eq_ix3 i⟩
  have hg := g.isLt
  obtain ⟨r, e⟩ := hr ⟨g.val / 256, by omega⟩ (ix3 b ⟨g.val % 256, by omega⟩ t)
  rw [h, Layout.block_apply, idx3 _ _ _ _ _ g (by show g.val = 256 * (g.val / 256) + g.val % 256; omega)] at e
  exact ⟨r, e⟩

theorem real4 {X : FVec Ideal ⟨4, ![2, 4096, 4, 64]⟩ .bf16} {f : Fin 16 → FVec Ideal ⟨4, ![2, 256, 4, 64]⟩ .bf16}
    (h : ∀ c, f c = Layout.block ⟨4, ![2, 256, 4, 64]⟩ ⟨4, ![2, 4096, 4, 64]⟩ 1 16 c X) (hr : ∀ c i, ∃ r : ℝ, f c i = (r : EReal)) (i) : ∃ r : ℝ, X i = (r : EReal) := by
  obtain ⟨b, g, k, d, rfl⟩ : ∃ (b : Fin 2) (g : Fin 4096) (k : Fin 4) (d : Fin 64), i = ix4 b g k d := ⟨i 0, i 1, i 2, i 3, eq_ix4 i⟩
  have hg := g.isLt
  obtain ⟨r, e⟩ := hr ⟨g.val / 256, by omega⟩ (ix4 b ⟨g.val % 256, by omega⟩ k d)
  rw [h, Layout.block_apply, idx4 _ _ _ _ _ _ g (by show g.val = 256 * (g.val / 256) + g.val % 256; omega)] at e
  exact ⟨r, e⟩

/-! ## The claim -/

/-- Over the extended reals, when every input, query weight and key is finite, each device's result is its block of the
    reference's, and both programs leave their arguments as they were. -/
theorem agree : Cert.algebraic_KernelIdeal_ReferenceIdeal_pre_finite_KernelIdeal := by
  intro m g m' g' hpre hin
  have hreal := fun c => Finite.real_args (hpre c)
  choose xr hx using (real3 (fun c => (hin c).1) (fun c => (hreal c).1))
  choose kr hk using (real4 (fun c => (hin c).2.2.1) (fun c => (hreal c).2.2))
  choose wr hw using (hreal 0).2.1
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c b i t q e => (congrFun (hin c).1 (ix3 b i t)).trans (congrArg _ (idx3 _ c b i t q e))
      wq := fun c => (hin c).2.1
      k := fun c b i h d q e => (congrFun (hin c).2.2.1 (ix4 b i h d)).trans (congrArg _ (idx4 _ c b i h d q e))
      v := fun c b i h d q e => (congrFun (hin c).2.2.2.1 (ix4 b i h d)).trans (congrArg _ (idx4 _ c b i h d q e))
      wo := fun c => (hin c).2.2.2.2 }
  have hw' : ∀ i, m' (((0 : Dev Cert.ReferenceIdeal.nD).tc : Thread Cert.ReferenceIdeal.nD Cert.ReferenceIdeal.τ).loc Cert.ReferenceIdeal.main_arg1) i = (wr i : EReal) :=
    fun i => (congrFun (H.wq 0) i).symm.trans (hw i)
  refine ⟨Cert.ReferenceIdeal.Value.res_out0 m' 0, ?_, ?_⟩
  · refine (θ_run _ _ _).mono (fun r h c => ⟨?_, (h.1 c (0 : Fin 6)).trans (final_in m g c (0 : Fin 6) rfl), (h.1 c (1 : Fin 6)).trans (final_in m g c (1 : Fin 6) rfl),
      (h.1 c (2 : Fin 6)).trans (final_in m g c (2 : Fin 6) rfl), (h.1 c (3 : Fin 6)).trans (final_in m g c (3 : Fin 6) rfl),
      (h.1 c (4 : Fin 6)).trans (final_in m g c (4 : Fin 6) rfl)⟩) (run_main m g)
    refine (h.1 c (5 : Fin 6)).trans ((final_out m g c).trans ?_)
    rw [Cert.R.ref_eq]
    funext i
    obtain ⟨b, q, n, rfl⟩ : ∃ (b : Fin 2) (q : Fin 256) (n : Fin 512), i = ix3 b q n := ⟨i 0, i 1, i 2, eq_ix3 i⟩
    have hc : c.val < 16 := c.isLt
    have hq := q.isLt
    refine (outFull_eq m g H hx hw' hk c b q n ⟨256 * c.val + q.val, by omega⟩ rfl).trans ?_
    exact (congrArg _ (idx3 _ c b q n ⟨256 * c.val + q.val, by omega⟩ rfl)).symm
  · exact (θ_run _ _ _).mono (fun r h => h 0) (Cert.ReferenceIdeal.Value.run (F := Ideal) m' g')

end Cert.K
end
-- ==== Proof.lean ====
/-
# The certificate

Puts the claims together: the frames and the mask's reading are proved in `Proof/Frames.lean`, the equality with the
reference in `Proof/Agree.lean`.
-/
module

public import proofs.«01_k».proof.Defs
public import proofs.«01_k».proof.Proof.Frames
public import proofs.«01_k».proof.Proof.Agree
public import proofs.«01_k».proof.Proof.Gen.ReferenceIdeal.Run

@[expose] public section

noncomputable section

namespace Cert.Proof

/-- Every claim of the certificate; the two frames under the precondition follow from the frames without it. -/
theorem claim : Cert.Claim := ⟨Cert.Kernel.Gen.facts, Cert.KernelIdeal.Gen.facts, Cert.ReferenceIdeal.Gen.facts,
  Cert.Finite.facts_kernel, Cert.Finite.facts_reference, Cert.K.frame_kernel, Cert.K.frame_ideal,
  fun m g _ => Cert.K.frame_ideal m g trivial, Cert.K.frame_reference, fun m g _ => Cert.K.frame_reference m g trivial,
  Cert.K.mask_named, Cert.K.agree⟩

end Cert.Proof

end
